-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v203) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S65536x256 : Shape := ⟨2, ![65536, 256]⟩
abbrev S65536 : Shape := ⟨1, ![65536]⟩
abbrev S256x256 : Shape := ⟨2, ![256, 256]⟩
abbrev S256 : Shape := ⟨1, ![256]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_where {F : FTy → Type} [FloatOps F] (arg0 : IVec S65536 1) (arg1 : IVec S65536 32) (arg2 : IVec S65536 32) : IVec S65536 32 :=
  let v0 : IVec S65536 32 := select arg0 arg1 arg2
  v0

def fn_floor_divide {F : FTy → Type} [FloatOps F] (arg0 : IVec S65536 32) (arg1 : IVec S_ 32) : IVec S65536 32 :=
  let v0 : IVec S_ 32 := id arg1
  let v1 : IVec S65536 32 := broadcastInDim S65536 ![] bcast_S_S65536 v0
  let v2 : IVec S65536 32 := Host.divsi arg0 v1
  let v3 : IVec S65536 32 := signi arg0
  let v4 : IVec S_ 32 := signi v0
  let v5 : IVec S65536 32 := broadcastInDim S65536 ![] bcast_S_S65536 v4
  let v6 : IVec S65536 1 := cmpi .ne v3 v5
  let v7 : IVec S65536 32 := broadcastInDim S65536 ![] bcast_S_S65536 v0
  let v8 : IVec S65536 32 := Host.remsi arg0 v7
  let c : IVec S_ 32 := constantI S_ 32 0#32
  let v9 : IVec S65536 32 := broadcastInDim S65536 ![] bcast_S_S65536 c
  let v10 : IVec S65536 1 := cmpi .ne v8 v9
  let v11 : IVec S65536 1 := andi v6 v10
  let c_0 : IVec S_ 32 := constantI S_ 32 1#32
  let v12 : IVec S65536 32 := broadcastInDim S65536 ![] bcast_S_S65536 c_0
  let v13 : IVec S65536 32 := subi v2 v12
  let v14 : IVec S65536 32 := fn_where (F := F) v11 v13 v2
  v14

def fn_where_0 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S65536 32) (arg1 : IVec S_ 32) : IVec S65536 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_0 (F := F) v1 c_0 v0
  let v3 : IVec S65536 32 := broadcastInDim S65536 ![] bcast_S_S65536 v2
  let v4 : IVec S65536 32 := Host.remsi arg0 v3
  let c_1 : IVec S_ 32 := constantI S_ 32 0#32
  let v5 : IVec S65536 32 := broadcastInDim S65536 ![] bcast_S_S65536 c_1
  let v6 : IVec S65536 1 := cmpi .ne v4 v5
  let c_2 : IVec S_ 32 := constantI S_ 32 0#32
  let v7 : IVec S65536 32 := broadcastInDim S65536 ![] bcast_S_S65536 c_2
  let v8 : IVec S65536 1 := cmpi .slt v4 v7
  let c_3 : IVec S_ 32 := constantI S_ 32 0#32
  let v9 : IVec S_ 1 := cmpi .slt v2 c_3
  let v10 : IVec S65536 1 := broadcastInDim S65536 ![] bcast_S_S65536 v9
  let v11 : IVec S65536 1 := cmpi .ne v8 v10
  let v12 : IVec S65536 1 := andi v11 v6
  let v13 : IVec S65536 32 := broadcastInDim S65536 ![] bcast_S_S65536 v2
  let v14 : IVec S65536 32 := addi v4 v13
  let v15 : IVec S65536 32 := select v12 v14 v4
  v15

def fn_part5 {F : FTy → Type} [FloatOps F] (main_arg13 : FVec F S256x256 .f32) (main_v79 : IVec S_ 1) (main_v81 : IVec S256x256 1) (main_v82 : FVec F S256x256 .f32) : IVec S_ 1 :=
  let main_v83 : IVec S256x256 1 := cmpf .olt main_arg13 main_v82
  let main_v84 : IVec S256x256 1 := andi main_v81 main_v83
  let main_c_35 : IVec S_ 1 := constantI S_ 1 1#1
  let main_v85 : IVec S_ 1 := (fun x v => Host.reduce IntOp.andi x v reducesTo_S256x256_S_d0_1 h_S_) main_v84 main_c_35
  let main_v86 : IVec S_ 1 := andi main_v79 main_v85
  main_v86

def fn_part4 {F : FTy → Type} [FloatOps F] (main_arg11 : FVec F S256x256 .f32) (main_arg12 : FVec F S256 .f32) (main_arg13 : FVec F S256x256 .f32) (main_v65 : IVec S_ 1) (main_cst_27 : FVec F S_ .f32) : IVec S_ 1 :=
  let main_v66 : FVec F S256x256 .f32 := broadcastInDim S256x256 ![] bcast_S_S256x256 main_cst_27
  let main_v67 : IVec S256x256 1 := cmpf .ogt main_arg11 main_v66
  let main_cst_28 : FVec F S_ .f32 := constant S_ .f32 0x7F800000#32
  let main_v68 : FVec F S256x256 .f32 := broadcastInDim S256x256 ![] bcast_S_S256x256 main_cst_28
  let main_v69 : IVec S256x256 1 := cmpf .olt main_arg11 main_v68
  let main_v70 : IVec S256x256 1 := andi main_v67 main_v69
  let main_c_29 : IVec S_ 1 := constantI S_ 1 1#1
  let main_v71 : IVec S_ 1 := (fun x v => Host.reduce IntOp.andi x v reducesTo_S256x256_S_d0_1 h_S_) main_v70 main_c_29
  let main_v72 : IVec S_ 1 := andi main_v65 main_v71
  let main_cst_30 : FVec F S_ .f32 := constant S_ .f32 0xFF800000#32
  let main_v73 : FVec F S256 .f32 := broadcastInDim S256 ![] bcast_S_S256 main_cst_30
  let main_v74 : IVec S256 1 := cmpf .ogt main_arg12 main_v73
  let main_cst_31 : FVec F S_ .f32 := constant S_ .f32 0x7F800000#32
  let main_v75 : FVec F S256 .f32 := broadcastInDim S256 ![] bcast_S_S256 main_cst_31
  let main_v76 : IVec S256 1 := cmpf .olt main_arg12 main_v75
  let main_v77 : IVec S256 1 := andi main_v74 main_v76
  let main_c_32 : IVec S_ 1 := constantI S_ 1 1#1
  let main_v78 : IVec S_ 1 := (fun x v => Host.reduce IntOp.andi x v reducesTo_S256_S_d0 h_S_) main_v77 main_c_32
  let main_v79 : IVec S_ 1 := andi main_v72 main_v78
  let main_cst_33 : FVec F S_ .f32 := constant S_ .f32 0xFF800000#32
  let main_v80 : FVec F S256x256 .f32 := broadcastInDim S256x256 ![] bcast_S_S256x256 main_cst_33
  let main_v81 : IVec S256x256 1 := cmpf .ogt main_arg13 main_v80
  let main_cst_34 : FVec F S_ .f32 := constant S_ .f32 0x7F800000#32
  let main_v82 : FVec F S256x256 .f32 := broadcastInDim S256x256 ![] bcast_S_S256x256 main_cst_34
  fn_part5 (F := F) main_arg13 main_v79 main_v81 main_v82

def fn_part3 {F : FTy → Type} [FloatOps F] (main_arg9 : FVec F S256x256 .f32) (main_arg10 : FVec F S256 .f32) (main_arg11 : FVec F S256x256 .f32) (main_arg12 : FVec F S256 .f32) (main_arg13 : FVec F S256x256 .f32) (main_v44 : IVec S_ 1) (main_v49 : IVec S256x256 1) : IVec S_ 1 :=
  let main_c_20 : IVec S_ 1 := constantI S_ 1 1#1
  let main_v50 : IVec S_ 1 := (fun x v => Host.reduce IntOp.andi x v reducesTo_S256x256_S_d0_1 h_S_) main_v49 main_c_20
  let main_v51 : IVec S_ 1 := andi main_v44 main_v50
  let main_cst_21 : FVec F S_ .f32 := constant S_ .f32 0xFF800000#32
  let main_v52 : FVec F S256x256 .f32 := broadcastInDim S256x256 ![] bcast_S_S256x256 main_cst_21
  let main_v53 : IVec S256x256 1 := cmpf .ogt main_arg9 main_v52
  let main_cst_22 : FVec F S_ .f32 := constant S_ .f32 0x7F800000#32
  let main_v54 : FVec F S256x256 .f32 := broadcastInDim S256x256 ![] bcast_S_S256x256 main_cst_22
  let main_v55 : IVec S256x256 1 := cmpf .olt main_arg9 main_v54
  let main_v56 : IVec S256x256 1 := andi main_v53 main_v55
  let main_c_23 : IVec S_ 1 := constantI S_ 1 1#1
  let main_v57 : IVec S_ 1 := (fun x v => Host.reduce IntOp.andi x v reducesTo_S256x256_S_d0_1 h_S_) main_v56 main_c_23
  let main_v58 : IVec S_ 1 := andi main_v51 main_v57
  let main_cst_24 : FVec F S_ .f32 := constant S_ .f32 0xFF800000#32
  let main_v59 : FVec F S256 .f32 := broadcastInDim S256 ![] bcast_S_S256 main_cst_24
  let main_v60 : IVec S256 1 := cmpf .ogt main_arg10 main_v59
  let main_cst_25 : FVec F S_ .f32 := constant S_ .f32 0x7F800000#32
  let main_v61 : FVec F S256 .f32 := broadcastInDim S256 ![] bcast_S_S256 main_cst_25
  let main_v62 : IVec S256 1 := cmpf .olt main_arg10 main_v61
  let main_v63 : IVec S256 1 := andi main_v60 main_v62
  let main_c_26 : IVec S_ 1 := constantI S_ 1 1#1
  let main_v64 : IVec S_ 1 := (fun x v => Host.reduce IntOp.andi x v reducesTo_S256_S_d0 h_S_) main_v63 main_c_26
  let main_v65 : IVec S_ 1 := andi main_v58 main_v64
  let main_cst_27 : FVec F S_ .f32 := constant S_ .f32 0xFF800000#32
  fn_part4 (F := F) main_arg11 main_arg12 main_arg13 main_v65 main_cst_27

def fn_part2 {F : FTy → Type} [FloatOps F] (main_arg5 : FVec F S256x256 .f32) (main_arg6 : FVec F S256 .f32) (main_arg7 : FVec F S256x256 .f32) (main_arg9 : FVec F S256x256 .f32) (main_arg10 : FVec F S256 .f32) (main_arg11 : FVec F S256x256 .f32) (main_arg12 : FVec F S256 .f32) (main_arg13 : FVec F S256x256 .f32) (main_v30 : IVec S_ 1) (main_v32 : IVec S256x256 1) : IVec S_ 1 :=
  let main_cst_13 : FVec F S_ .f32 := constant S_ .f32 0x7F800000#32
  let main_v33 : FVec F S256x256 .f32 := broadcastInDim S256x256 ![] bcast_S_S256x256 main_cst_13
  let main_v34 : IVec S256x256 1 := cmpf .olt main_arg5 main_v33
  let main_v35 : IVec S256x256 1 := andi main_v32 main_v34
  let main_c_14 : IVec S_ 1 := constantI S_ 1 1#1
  let main_v36 : IVec S_ 1 := (fun x v => Host.reduce IntOp.andi x v reducesTo_S256x256_S_d0_1 h_S_) main_v35 main_c_14
  let main_v37 : IVec S_ 1 := andi main_v30 main_v36
  let main_cst_15 : FVec F S_ .f32 := constant S_ .f32 0xFF800000#32
  let main_v38 : FVec F S256 .f32 := broadcastInDim S256 ![] bcast_S_S256 main_cst_15
  let main_v39 : IVec S256 1 := cmpf .ogt main_arg6 main_v38
  let main_cst_16 : FVec F S_ .f32 := constant S_ .f32 0x7F800000#32
  let main_v40 : FVec F S256 .f32 := broadcastInDim S256 ![] bcast_S_S256 main_cst_16
  let main_v41 : IVec S256 1 := cmpf .olt main_arg6 main_v40
  let main_v42 : IVec S256 1 := andi main_v39 main_v41
  let main_c_17 : IVec S_ 1 := constantI S_ 1 1#1
  let main_v43 : IVec S_ 1 := (fun x v => Host.reduce IntOp.andi x v reducesTo_S256_S_d0 h_S_) main_v42 main_c_17
  let main_v44 : IVec S_ 1 := andi main_v37 main_v43
  let main_cst_18 : FVec F S_ .f32 := constant S_ .f32 0xFF800000#32
  let main_v45 : FVec F S256x256 .f32 := broadcastInDim S256x256 ![] bcast_S_S256x256 main_cst_18
  let main_v46 : IVec S256x256 1 := cmpf .ogt main_arg7 main_v45
  let main_cst_19 : FVec F S_ .f32 := constant S_ .f32 0x7F800000#32
  let main_v47 : FVec F S256x256 .f32 := broadcastInDim S256x256 ![] bcast_S_S256x256 main_cst_19
  let main_v48 : IVec S256x256 1 := cmpf .olt main_arg7 main_v47
  let main_v49 : IVec S256x256 1 := andi main_v46 main_v48
  fn_part3 (F := F) main_arg9 main_arg10 main_arg11 main_arg12 main_arg13 main_v44 main_v49

def fn_part1 {F : FTy → Type} [FloatOps F] (main_arg3 : FVec F S256x256 .f32) (main_arg4 : FVec F S256 .f32) (main_arg5 : FVec F S256x256 .f32) (main_arg6 : FVec F S256 .f32) (main_arg7 : FVec F S256x256 .f32) (main_arg9 : FVec F S256x256 .f32) (main_arg10 : FVec F S256 .f32) (main_arg11 : FVec F S256x256 .f32) (main_arg12 : FVec F S256 .f32) (main_arg13 : FVec F S256x256 .f32) (main_v9 : IVec S_ 1) (main_v15 : IVec S_ 1) : IVec S_ 1 :=
  let main_v16 : IVec S_ 1 := andi main_v9 main_v15
  let main_cst_6 : FVec F S_ .f32 := constant S_ .f32 0xFF800000#32
  let main_v17 : FVec F S256x256 .f32 := broadcastInDim S256x256 ![] bcast_S_S256x256 main_cst_6
  let main_v18 : IVec S256x256 1 := cmpf .ogt main_arg3 main_v17
  let main_cst_7 : FVec F S_ .f32 := constant S_ .f32 0x7F800000#32
  let main_v19 : FVec F S256x256 .f32 := broadcastInDim S256x256 ![] bcast_S_S256x256 main_cst_7
  let main_v20 : IVec S256x256 1 := cmpf .olt main_arg3 main_v19
  let main_v21 : IVec S256x256 1 := andi main_v18 main_v20
  let main_c_8 : IVec S_ 1 := constantI S_ 1 1#1
  let main_v22 : IVec S_ 1 := (fun x v => Host.reduce IntOp.andi x v reducesTo_S256x256_S_d0_1 h_S_) main_v21 main_c_8
  let main_v23 : IVec S_ 1 := andi main_v16 main_v22
  let main_cst_9 : FVec F S_ .f32 := constant S_ .f32 0xFF800000#32
  let main_v24 : FVec F S256 .f32 := broadcastInDim S256 ![] bcast_S_S256 main_cst_9
  let main_v25 : IVec S256 1 := cmpf .ogt main_arg4 main_v24
  let main_cst_10 : FVec F S_ .f32 := constant S_ .f32 0x7F800000#32
  let main_v26 : FVec F S256 .f32 := broadcastInDim S256 ![] bcast_S_S256 main_cst_10
  let main_v27 : IVec S256 1 := cmpf .olt main_arg4 main_v26
  let main_v28 : IVec S256 1 := andi main_v25 main_v27
  let main_c_11 : IVec S_ 1 := constantI S_ 1 1#1
  let main_v29 : IVec S_ 1 := (fun x v => Host.reduce IntOp.andi x v reducesTo_S256_S_d0 h_S_) main_v28 main_c_11
  let main_v30 : IVec S_ 1 := andi main_v23 main_v29
  let main_cst_12 : FVec F S_ .f32 := constant S_ .f32 0xFF800000#32
  let main_v31 : FVec F S256x256 .f32 := broadcastInDim S256x256 ![] bcast_S_S256x256 main_cst_12
  let main_v32 : IVec S256x256 1 := cmpf .ogt main_arg5 main_v31
  fn_part2 (F := F) main_arg5 main_arg6 main_arg7 main_arg9 main_arg10 main_arg11 main_arg12 main_arg13 main_v30 main_v32

def fn {F : FTy → Type} [FloatOps F] (main_arg0 : FVec F S65536x256 .f32) (main_arg1 : IVec S65536 32) (main_arg2 : IVec S65536 32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) : IVec S_ 1 :=
  let main_v0 : IVec S65536 32 := iotaInDim S65536 32 0
  let main_c : IVec S_ 32 := constantI S_ 32 64#32
  let main_v1 : IVec S65536 32 := fn_floor_divide (F := F) main_v0 main_c
  let main_v2 : IVec S65536 1 := cmpi .eq main_arg1 main_v1
  let main_c_0 : IVec S_ 1 := constantI S_ 1 1#1
  let main_v3 : IVec S_ 1 := (fun x v => Host.reduce IntOp.andi x v reducesTo_S65536_S_d0 h_S_) main_v2 main_c_0
  let main_c_1 : IVec S_ 32 := constantI S_ 32 64#32
  let main_v4 : IVec S65536 32 := fn_remainder (F := F) main_v0 main_c_1
  let main_c_2 : IVec S_ 32 := constantI S_ 32 2#32
  let main_v5 : IVec S65536 32 := broadcastInDim S65536 ![] bcast_S_S65536 main_c_2
  let main_v6 : IVec S65536 32 := minsi main_v4 main_v5
  let main_v7 : IVec S65536 1 := cmpi .eq main_arg2 main_v6
  let main_c_3 : IVec S_ 1 := constantI S_ 1 1#1
  let main_v8 : IVec S_ 1 := (fun x v => Host.reduce IntOp.andi x v reducesTo_S65536_S_d0 h_S_) main_v7 main_c_3
  let main_v9 : IVec S_ 1 := andi main_v3 main_v8
  let main_cst : FVec F S_ .f32 := constant S_ .f32 0xFF800000#32
  let main_v10 : FVec F S65536x256 .f32 := broadcastInDim S65536x256 ![] bcast_S_S65536x256 main_cst
  let main_v11 : IVec S65536x256 1 := cmpf .ogt main_arg0 main_v10
  let main_cst_4 : FVec F S_ .f32 := constant S_ .f32 0x7F800000#32
  let main_v12 : FVec F S65536x256 .f32 := broadcastInDim S65536x256 ![] bcast_S_S65536x256 main_cst_4
  let main_v13 : IVec S65536x256 1 := cmpf .olt main_arg0 main_v12
  let main_v14 : IVec S65536x256 1 := andi main_v11 main_v13
  let main_c_5 : IVec S_ 1 := constantI S_ 1 1#1
  let main_v15 : IVec S_ 1 := (fun x v => Host.reduce IntOp.andi x v reducesTo_S65536x256_S_d0_1 h_S_) main_v14 main_c_5
  fn_part1 (F := F) main_arg3 main_arg4 main_arg5 main_arg6 main_arg7 main_arg9 main_arg10 main_arg11 main_arg12 main_arg13 main_v9 main_v15
-- ==== Kernel.lean ====
abbrev S65536x256 : Shape := ⟨2, ![65536, 256]⟩
abbrev S65536 : Shape := ⟨1, ![65536]⟩
abbrev S256x256 : Shape := ⟨2, ![256, 256]⟩
abbrev S256 : Shape := ⟨1, ![256]⟩
abbrev S1x256 : Shape := ⟨2, ![1, 256]⟩
abbrev S1024x256 : Shape := ⟨2, ![1024, 256]⟩
abbrev S4096x256 : Shape := ⟨2, ![4096, 256]⟩
abbrev S64x256 : Shape := ⟨2, ![64, 256]⟩
abbrev S256x512 : Shape := ⟨2, ![256, 512]⟩
abbrev S64x1x128 : Shape := ⟨3, ![64, 1, 128]⟩
abbrev S64x64x256 : Shape := ⟨3, ![64, 64, 256]⟩
abbrev S64x1x256 : Shape := ⟨3, ![64, 1, 256]⟩
abbrev S128x256 : Shape := ⟨2, ![128, 256]⟩
abbrev S4096x128 : Shape := ⟨2, ![4096, 128]⟩
abbrev S64x64x128 : Shape := ⟨3, ![64, 64, 128]⟩
abbrev S64x128 : Shape := ⟨2, ![64, 128]⟩
abbrev S128 : Shape := ⟨1, ![128]⟩
abbrev S1x128 : Shape := ⟨2, ![1, 128]⟩
abbrev S1x64x128 : Shape := ⟨3, ![1, 64, 128]⟩
abbrev S128x512 : Shape := ⟨2, ![128, 512]⟩

abbrev nBuf : Space → Nat
  | .hbm => 21
  | .vmem => 21
  | .smem => 0
  | _ => 0

abbrev bufTy : (tb : Table) → Fin (tcTables nBuf tb) → BufTy
  | .hbm, ⟨0, _⟩ => ⟨S65536x256, .f32⟩
  | .hbm, ⟨1, _⟩ => ⟨S65536, .i32⟩
  | .hbm, ⟨2, _⟩ => ⟨S65536, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S1024x256, .f32⟩
  | .hbm, ⟨20, _⟩ => ⟨S1024x256, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S256x256, .f32⟩
  | .local _ .vmem, ⟨10, _⟩ => ⟨S256x256, .f32⟩
  | .local _ .vmem, ⟨11, _⟩ => ⟨S1x256, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | .local _ .vmem, ⟨16, _⟩ => ⟨S256x256, .f32⟩
  | .local _ .vmem, ⟨17, _⟩ => ⟨S256x256, .f32⟩
  | .local _ .vmem, ⟨18, _⟩ => ⟨S1x256, .f32⟩
  | .local _ .vmem, ⟨19, _⟩ => ⟨S1x256, .f32⟩
  | .local _ .vmem, ⟨20, _⟩ => ⟨S256x512, .bf16⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S65536x256 : Shape := ⟨2, ![65536, 256]⟩
abbrev S65536 : Shape := ⟨1, ![65536]⟩
abbrev S256x256 : Shape := ⟨2, ![256, 256]⟩
abbrev S256 : Shape := ⟨1, ![256]⟩
abbrev S_ : Shape := ⟨0, ![]⟩
abbrev S1024 : Shape := ⟨1, ![1024]⟩
abbrev S65536x1 : Shape := ⟨2, ![65536, 1]⟩
abbrev S1 : Shape := ⟨1, ![1]⟩
abbrev S1024x1 : Shape := ⟨2, ![1024, 1]⟩
abbrev S1024x256 : Shape := ⟨2, ![1024, 256]⟩
abbrev S1023 : Shape := ⟨1, ![1023]⟩
abbrev S1x1 : Shape := ⟨2, ![1, 1]⟩
abbrev S1x256 : Shape := ⟨2, ![1, 256]⟩
abbrev S1x65536 : Shape := ⟨2, ![1, 65536]⟩
abbrev S1024x65536 : Shape := ⟨2, ![1024, 65536]⟩

abbrev nBuf : Space → Nat
  | .hbm => 428
  | .vmem => 0
  | .smem => 0
  | _ => 0

abbrev hbmTy0_0 (i : Nat) : BufTy := match i % 128 with
  | 0 => ⟨S65536x256, .f32⟩
  | 1 => ⟨S65536, .i32⟩
  | 2 => ⟨S65536, .i32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256x256, .f32⟩
  | 14 => ⟨S256, .f32⟩
  | 15 => ⟨S_, .i32⟩
  | 16 => ⟨S65536, .i32⟩
  | 17 => ⟨S65536, .i1⟩
  | 18 => ⟨S65536, .i32⟩
  | 19 => ⟨S_, .i32⟩
  | 20 => ⟨S_, .i32⟩
  | 21 => ⟨S65536, .i32⟩
  | 22 => ⟨S_, .i32⟩
  | 23 => ⟨S1024, .i32⟩
  | 24 => ⟨S_, .i32⟩
  | 25 => ⟨S65536, .i32⟩
  | 26 => ⟨S65536, .i1⟩
  | 27 => ⟨S_, .i32⟩
  | 28 => ⟨S65536, .i32⟩
  | 29 => ⟨S65536, .i32⟩
  | 30 => ⟨S65536, .i32⟩
  | 31 => ⟨S65536x1, .i32⟩
  | 32 => ⟨S_, .i32⟩
  | 33 => ⟨S65536, .i32⟩
  | 34 => ⟨S1024, .i32⟩
  | 35 => ⟨S_, .i32⟩
  | 36 => ⟨S_, .i32⟩
  | 37 => ⟨S1024, .i32⟩
  | 38 => ⟨S_, .i32⟩
  | 39 => ⟨S_, .i32⟩
  | 40 => ⟨S1024, .i32⟩
  | 41 => ⟨S1024, .i32⟩
  | 42 => ⟨S1024, .i32⟩
  | 43 => ⟨S_, .i32⟩
  | 44 => ⟨S1024, .i32⟩
  | 45 => ⟨S1024, .i1⟩
  | 46 => ⟨S1024, .i32⟩
  | 47 => ⟨S1024, .i32⟩
  | 48 => ⟨S_, .i32⟩
  | 49 => ⟨S1024, .i32⟩
  | 50 => ⟨S1024, .i1⟩
  | 51 => ⟨S1024, .i1⟩
  | 52 => ⟨S_, .i32⟩
  | 53 => ⟨S1024, .i32⟩
  | 54 => ⟨S1024, .i32⟩
  | 55 => ⟨S1024, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S1024, .i32⟩
  | 63 => ⟨S1024, .i32⟩
  | 64 => ⟨S_, .i32⟩
  | 65 => ⟨S1024, .i32⟩
  | 66 => ⟨S1024, .i1⟩
  | 67 => ⟨S_, .i32⟩
  | 68 => ⟨S1024, .i32⟩
  | 69 => ⟨S1024, .i1⟩
  | 70 => ⟨S_, .i32⟩
  | 71 => ⟨S_, .i1⟩
  | 72 => ⟨S1024, .i1⟩
  | 73 => ⟨S1024, .i1⟩
  | 74 => ⟨S1024, .i1⟩
  | 75 => ⟨S1024, .i32⟩
  | 76 => ⟨S1024, .i32⟩
  | 77 => ⟨S1024, .i32⟩
  | 78 => ⟨S65536, .i32⟩
  | 79 => ⟨S_, .i32⟩
  | 80 => ⟨S_, .i32⟩
  | 81 => ⟨S1, .i32⟩
  | 82 => ⟨S1024, .i32⟩
  | 83 => ⟨S1024, .i32⟩
  | 84 => ⟨S1024, .i1⟩
  | 85 => ⟨S_, .i32⟩
  | 86 => ⟨S_, .i32⟩
  | 87 => ⟨S1024, .i32⟩
  | 88 => ⟨S1024, .i32⟩
  | 89 => ⟨S_, .i32⟩
  | 90 => ⟨S65536, .i32⟩
  | 91 => ⟨S65536, .i1⟩
  | 92 => ⟨S65536, .i32⟩
  | 93 => ⟨S_, .i32⟩
  | 94 => ⟨S_, .i32⟩
  | 95 => ⟨S65536, .i32⟩
  | 96 => ⟨S_, .i32⟩
  | 97 => ⟨S1024, .i32⟩
  | 98 => ⟨S_, .i32⟩
  | 99 => ⟨S65536, .i32⟩
  | 100 => ⟨S65536, .i1⟩
  | 101 => ⟨S_, .i32⟩
  | 102 => ⟨S65536, .i32⟩
  | 103 => ⟨S65536, .i32⟩
  | 104 => ⟨S65536, .i32⟩
  | 105 => ⟨S65536x1, .i32⟩
  | 106 => ⟨S_, .i32⟩
  | 107 => ⟨S65536, .i32⟩
  | 108 => ⟨S1024, .i32⟩
  | 109 => ⟨S_, .i32⟩
  | 110 => ⟨S_, .i32⟩
  | 111 => ⟨S1024, .i32⟩
  | 112 => ⟨S_, .i32⟩
  | 113 => ⟨S_, .i32⟩
  | 114 => ⟨S1024, .i32⟩
  | 115 => ⟨S1024, .i32⟩
  | 116 => ⟨S1024, .i32⟩
  | 117 => ⟨S_, .i32⟩
  | 118 => ⟨S1024, .i32⟩
  | 119 => ⟨S1024, .i1⟩
  | 120 => ⟨S1024, .i32⟩
  | 121 => ⟨S1024, .i32⟩
  | 122 => ⟨S_, .i32⟩
  | 123 => ⟨S1024, .i32⟩
  | 124 => ⟨S1024, .i1⟩
  | 125 => ⟨S1024, .i1⟩
  | 126 => ⟨S_, .i32⟩
  | 127 => ⟨S1024, .i32⟩
  | _ => ⟨S65536x256, .f32⟩

abbrev hbmTy0_1 (i : Nat) : BufTy := match i % 128 with
  | 0 => ⟨S1024, .i32⟩
  | 1 => ⟨S1024, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S1024, .i32⟩
  | 9 => ⟨S1024, .i32⟩
  | 10 => ⟨S_, .i32⟩
  | 11 => ⟨S1024, .i32⟩
  | 12 => ⟨S1024, .i1⟩
  | 13 => ⟨S_, .i32⟩
  | 14 => ⟨S1024, .i32⟩
  | 15 => ⟨S1024, .i1⟩
  | 16 => ⟨S_, .i32⟩
  | 17 => ⟨S_, .i1⟩
  | 18 => ⟨S1024, .i1⟩
  | 19 => ⟨S1024, .i1⟩
  | 20 => ⟨S1024, .i1⟩
  | 21 => ⟨S1024, .i32⟩
  | 22 => ⟨S1024, .i32⟩
  | 23 => ⟨S1024, .i32⟩
  | 24 => ⟨S65536, .i32⟩
  | 25 => ⟨S_, .i32⟩
  | 26 => ⟨S_, .i32⟩
  | 27 => ⟨S1, .i32⟩
  | 28 => ⟨S1024, .i32⟩
  | 29 => ⟨S1024, .i32⟩
  | 30 => ⟨S1024, .i1⟩
  | 31 => ⟨S_, .i32⟩
  | 32 => ⟨S_, .i32⟩
  | 33 => ⟨S1024, .i32⟩
  | 34 => ⟨S1024, .i32⟩
  | 35 => ⟨S_, .i32⟩
  | 36 => ⟨S1024, .i32⟩
  | 37 => ⟨S_, .i32⟩
  | 38 => ⟨S_, .i32⟩
  | 39 => ⟨S65536, .i32⟩
  | 40 => ⟨S65536, .i32⟩
  | 41 => ⟨S_, .i32⟩
  | 42 => ⟨S65536, .i32⟩
  | 43 => ⟨S65536, .i1⟩
  | 44 => ⟨S_, .i32⟩
  | 45 => ⟨S65536, .i32⟩
  | 46 => ⟨S65536, .i32⟩
  | 47 => ⟨S65536, .i32⟩
  | 48 => ⟨S65536x1, .i32⟩
  | 49 => ⟨S_, .i32⟩
  | 50 => ⟨S65536, .i32⟩
  | 51 => ⟨S1024, .i32⟩
  | 52 => ⟨S_, .i32⟩
  | 53 => ⟨S1024, .i32⟩
  | 54 => ⟨S1024, .i1⟩
  | 55 => ⟨S_, .i32⟩
  | 56 => ⟨S1024, .i32⟩
  | 57 => ⟨S1024, .i32⟩
  | 58 => ⟨S1024, .i32⟩
  | 59 => ⟨S1024x1, .i32⟩
  | 60 => ⟨S1024x256, .f32⟩
  | 61 => ⟨S1, .i32⟩
  | 62 => ⟨S1023, .i32⟩
  | 63 => ⟨S1024, .i32⟩
  | 64 => ⟨S_, .i32⟩
  | 65 => ⟨S1, .i32⟩
  | 66 => ⟨S_, .i32⟩
  | 67 => ⟨S1024, .i32⟩
  | 68 => ⟨S_, .i32⟩
  | 69 => ⟨S_, .i32⟩
  | 70 => ⟨S1024, .i32⟩
  | 71 => ⟨S_, .i32⟩
  | 72 => ⟨S65536, .i32⟩
  | 73 => ⟨S_, .i32⟩
  | 74 => ⟨S1024, .i32⟩
  | 75 => ⟨S1024, .i1⟩
  | 76 => ⟨S_, .i32⟩
  | 77 => ⟨S1024, .i32⟩
  | 78 => ⟨S1024, .i32⟩
  | 79 => ⟨S1024, .i32⟩
  | 80 => ⟨S1024x1, .i32⟩
  | 81 => ⟨S_, .i32⟩
  | 82 => ⟨S1024, .i32⟩
  | 83 => ⟨S65536, .i32⟩
  | 84 => ⟨S_, .i32⟩
  | 85 => ⟨S_, .i32⟩
  | 86 => ⟨S65536, .i32⟩
  | 87 => ⟨S_, .i32⟩
  | 88 => ⟨S65536, .i32⟩
  | 89 => ⟨S65536, .i32⟩
  | 90 => ⟨S_, .i32⟩
  | 91 => ⟨S65536, .i32⟩
  | 92 => ⟨S65536, .i1⟩
  | 93 => ⟨S_, .i32⟩
  | 94 => ⟨S65536, .i32⟩
  | 95 => ⟨S65536, .i32⟩
  | 96 => ⟨S65536, .i32⟩
  | 97 => ⟨S65536x1, .i32⟩
  | 98 => ⟨S1, .i32⟩
  | 99 => ⟨S_, .i32⟩
  | 100 => ⟨S65536x1, .i32⟩
  | 101 => ⟨S65536x1, .i1⟩
  | 102 => ⟨S1x1, .i32⟩
  | 103 => ⟨S65536x1, .i32⟩
  | 104 => ⟨S65536x1, .i1⟩
  | 105 => ⟨S65536x1, .i1⟩
  | 106 => ⟨S_, .i1⟩
  | 107 => ⟨S65536, .i1⟩
  | 108 => ⟨S65536x256, .f32⟩
  | 109 => ⟨S65536x256, .i1⟩
  | 110 => ⟨S_, .f32⟩
  | 111 => ⟨S65536x256, .f32⟩
  | 112 => ⟨S65536x256, .f32⟩
  | 113 => ⟨S_, .i32⟩
  | 114 => ⟨S1024, .i32⟩
  | 115 => ⟨S1024, .i1⟩
  | 116 => ⟨S_, .i32⟩
  | 117 => ⟨S1024, .i32⟩
  | 118 => ⟨S1024, .i32⟩
  | 119 => ⟨S1024, .i32⟩
  | 120 => ⟨S1024x1, .i32⟩
  | 121 => ⟨S1024x256, .f32⟩
  | 122 => ⟨S1, .i32⟩
  | 123 => ⟨S1023, .i32⟩
  | 124 => ⟨S1024, .i32⟩
  | 125 => ⟨S_, .i32⟩
  | 126 => ⟨S1, .i32⟩
  | 127 => ⟨S_, .i32⟩
  | _ => ⟨S65536x256, .f32⟩

abbrev hbmTy0_2 (i : Nat) : BufTy := match i % 128 with
  | 0 => ⟨S1024, .i32⟩
  | 1 => ⟨S_, .i32⟩
  | 2 => ⟨S_, .i32⟩
  | 3 => ⟨S1024, .i32⟩
  | 4 => ⟨S_, .i32⟩
  | 5 => ⟨S65536, .i32⟩
  | 6 => ⟨S_, .i32⟩
  | 7 => ⟨S1024, .i32⟩
  | 8 => ⟨S1024, .i1⟩
  | 9 => ⟨S_, .i32⟩
  | 10 => ⟨S1024, .i32⟩
  | 11 => ⟨S1024, .i32⟩
  | 12 => ⟨S1024, .i32⟩
  | 13 => ⟨S1024x1, .i32⟩
  | 14 => ⟨S_, .i32⟩
  | 15 => ⟨S1024, .i32⟩
  | 16 => ⟨S65536, .i32⟩
  | 17 => ⟨S_, .i32⟩
  | 18 => ⟨S_, .i32⟩
  | 19 => ⟨S65536, .i32⟩
  | 20 => ⟨S_, .i32⟩
  | 21 => ⟨S65536, .i32⟩
  | 22 => ⟨S65536, .i32⟩
  | 23 => ⟨S_, .i32⟩
  | 24 => ⟨S65536, .i32⟩
  | 25 => ⟨S65536, .i1⟩
  | 26 => ⟨S_, .i32⟩
  | 27 => ⟨S65536, .i32⟩
  | 28 => ⟨S65536, .i32⟩
  | 29 => ⟨S65536, .i32⟩
  | 30 => ⟨S65536x1, .i32⟩
  | 31 => ⟨S1, .i32⟩
  | 32 => ⟨S_, .i32⟩
  | 33 => ⟨S65536x1, .i32⟩
  | 34 => ⟨S65536x1, .i1⟩
  | 35 => ⟨S1x1, .i32⟩
  | 36 => ⟨S65536x1, .i32⟩
  | 37 => ⟨S65536x1, .i1⟩
  | 38 => ⟨S65536x1, .i1⟩
  | 39 => ⟨S_, .i1⟩
  | 40 => ⟨S65536, .i1⟩
  | 41 => ⟨S65536x256, .f32⟩
  | 42 => ⟨S65536x256, .i1⟩
  | 43 => ⟨S_, .f32⟩
  | 44 => ⟨S65536x256, .f32⟩
  | 45 => ⟨S65536x256, .f32⟩
  | 46 => ⟨S65536x256, .f32⟩
  | 47 => ⟨S1x256, .f32⟩
  | 48 => ⟨S65536x256, .f32⟩
  | 49 => ⟨S65536x256, .f32⟩
  | 50 => ⟨S65536x256, .f32⟩
  | 51 => ⟨S1x256, .f32⟩
  | 52 => ⟨S65536x256, .f32⟩
  | 53 => ⟨S65536x256, .f32⟩
  | 54 => ⟨S65536x256, .f32⟩
  | 55 => ⟨S1x256, .f32⟩
  | 56 => ⟨S65536x256, .f32⟩
  | 57 => ⟨S65536x256, .f32⟩
  | 58 => ⟨S65536x256, .f32⟩
  | 59 => ⟨S1x256, .f32⟩
  | 60 => ⟨S65536x256, .f32⟩
  | 61 => ⟨S65536x256, .f32⟩
  | 62 => ⟨S65536x256, .f32⟩
  | 63 => ⟨S1x256, .f32⟩
  | 64 => ⟨S65536x256, .f32⟩
  | 65 => ⟨S65536x256, .f32⟩
  | 66 => ⟨S65536x256, .f32⟩
  | 67 => ⟨S1x256, .f32⟩
  | 68 => ⟨S65536x256, .f32⟩
  | 69 => ⟨S65536x256, .f32⟩
  | 70 => ⟨S65536x256, .f32⟩
  | 71 => ⟨S_, .f32⟩
  | 72 => ⟨S65536, .f32⟩
  | 73 => ⟨S65536x1, .f32⟩
  | 74 => ⟨S1x65536, .i32⟩
  | 75 => ⟨S1024, .i32⟩
  | 76 => ⟨S1024x1, .i32⟩
  | 77 => ⟨S1024x65536, .i32⟩
  | 78 => ⟨S1024x65536, .i32⟩
  | 79 => ⟨S1024x65536, .i1⟩
  | 80 => ⟨S65536, .f32⟩
  | 81 => ⟨S1x65536, .f32⟩
  | 82 => ⟨S_, .f32⟩
  | 83 => ⟨S_, .f32⟩
  | 84 => ⟨S1024x65536, .f32⟩
  | 85 => ⟨S1024x65536, .f32⟩
  | 86 => ⟨S1024x65536, .f32⟩
  | 87 => ⟨S_, .f32⟩
  | 88 => ⟨S1024, .f32⟩
  | 89 => ⟨S1024x1, .f32⟩
  | 90 => ⟨S_, .i32⟩
  | 91 => ⟨S65536, .i32⟩
  | 92 => ⟨S65536, .i1⟩
  | 93 => ⟨S_, .i32⟩
  | 94 => ⟨S65536, .i32⟩
  | 95 => ⟨S65536, .i32⟩
  | 96 => ⟨S65536, .i32⟩
  | 97 => ⟨S65536x1, .i32⟩
  | 98 => ⟨S65536x1, .f32⟩
  | 99 => ⟨S65536x1, .f32⟩
  | 100 => ⟨S65536x1, .f32⟩
  | 101 => ⟨S_, .f32⟩
  | 102 => ⟨S1024x1, .f32⟩
  | 103 => ⟨S65536x1, .i32⟩
  | 104 => ⟨S1024x1, .f32⟩
  | 105 => ⟨S_, .i32⟩
  | 106 => ⟨S65536, .i32⟩
  | 107 => ⟨S65536, .i1⟩
  | 108 => ⟨S_, .i32⟩
  | 109 => ⟨S65536, .i32⟩
  | 110 => ⟨S65536, .i32⟩
  | 111 => ⟨S65536, .i32⟩
  | 112 => ⟨S65536x1, .i32⟩
  | 113 => ⟨S65536x1, .f32⟩
  | 114 => ⟨S65536x1, .f32⟩
  | 115 => ⟨S65536x256, .f32⟩
  | 116 => ⟨S65536x256, .f32⟩
  | 117 => ⟨S_, .f32⟩
  | 118 => ⟨S1024x256, .f32⟩
  | 119 => ⟨S65536x1, .i32⟩
  | 120 => ⟨S1024x256, .f32⟩
  | 121 => ⟨S65536x256, .f32⟩
  | 122 => ⟨S_, .f32⟩
  | 123 => ⟨S65536, .f32⟩
  | 124 => ⟨S65536x1, .f32⟩
  | 125 => ⟨S1x65536, .i32⟩
  | 126 => ⟨S1024, .i32⟩
  | 127 => ⟨S1024x1, .i32⟩
  | _ => ⟨S65536x256, .f32⟩

abbrev hbmTy0_3 (i : Nat) : BufTy := match i % 128 with
  | 0 => ⟨S1024x65536, .i32⟩
  | 1 => ⟨S1024x65536, .i32⟩
  | 2 => ⟨S1024x65536, .i1⟩
  | 3 => ⟨S65536, .f32⟩
  | 4 => ⟨S1x65536, .f32⟩
  | 5 => ⟨S_, .f32⟩
  | 6 => ⟨S_, .f32⟩
  | 7 => ⟨S1024x65536, .f32⟩
  | 8 => ⟨S1024x65536, .f32⟩
  | 9 => ⟨S1024x65536, .f32⟩
  | 10 => ⟨S_, .f32⟩
  | 11 => ⟨S1024, .f32⟩
  | 12 => ⟨S1024x1, .f32⟩
  | 13 => ⟨S_, .i32⟩
  | 14 => ⟨S65536, .i32⟩
  | 15 => ⟨S65536, .i1⟩
  | 16 => ⟨S_, .i32⟩
  | 17 => ⟨S65536, .i32⟩
  | 18 => ⟨S65536, .i32⟩
  | 19 => ⟨S65536, .i32⟩
  | 20 => ⟨S65536x1, .i32⟩
  | 21 => ⟨S65536x1, .f32⟩
  | 22 => ⟨S65536x1, .f32⟩
  | 23 => ⟨S65536x1, .f32⟩
  | 24 => ⟨S_, .f32⟩
  | 25 => ⟨S1024x1, .f32⟩
  | 26 => ⟨S65536x1, .i32⟩
  | 27 => ⟨S1024x1, .f32⟩
  | 28 => ⟨S_, .i32⟩
  | 29 => ⟨S65536, .i32⟩
  | 30 => ⟨S65536, .i1⟩
  | 31 => ⟨S_, .i32⟩
  | 32 => ⟨S65536, .i32⟩
  | 33 => ⟨S65536, .i32⟩
  | 34 => ⟨S65536, .i32⟩
  | 35 => ⟨S65536x1, .i32⟩
  | 36 => ⟨S65536x1, .f32⟩
  | 37 => ⟨S65536x1, .f32⟩
  | 38 => ⟨S65536x256, .f32⟩
  | 39 => ⟨S65536x256, .f32⟩
  | 40 => ⟨S_, .f32⟩
  | 41 => ⟨S1024x256, .f32⟩
  | 42 => ⟨S65536x1, .i32⟩
  | 43 => ⟨S1024x256, .f32⟩
  | _ => ⟨S65536x256, .f32⟩

abbrev hbmTy (i : Nat) : BufTy := match i / 128 with
  | 0 => hbmTy0_0 i
  | 1 => hbmTy0_1 i
  | 2 => hbmTy0_2 i
  | 3 => hbmTy0_3 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_call0_v0 : Ref sig .tc := ⟨.hbm, 18, rfl⟩
abbrev main_call0_call0_c : Ref sig .tc := ⟨.hbm, 19, rfl⟩
abbrev main_call0_call0_v0 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_c_1 : Ref sig .tc := ⟨.hbm, 24, rfl⟩
abbrev main_v4 : Ref sig .tc := ⟨.hbm, 25, rfl⟩
abbrev main_v5 : Ref sig .tc := ⟨.hbm, 26, rfl⟩
abbrev main_c_2 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_3 : Ref sig .tc := ⟨.hbm, 32, rfl⟩
abbrev main_v10 : Ref sig .tc := ⟨.hbm, 33, rfl⟩
abbrev main_v11 : Ref sig .tc := ⟨.hbm, 34, rfl⟩
abbrev main_call1_call0_c : Ref sig .tc := ⟨.hbm, 35, rfl⟩
abbrev main_call1_call0_v0 : Ref sig .tc := ⟨.hbm, 36, rfl⟩
abbrev main_v12 : Ref sig .tc := ⟨.hbm, 37, rfl⟩
abbrev main_c_4 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_c : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_0 : Ref sig .tc := ⟨.hbm, 52, rfl⟩
abbrev main_call2_v12 : Ref sig .tc := ⟨.hbm, 53, rfl⟩
abbrev main_call2_v13 : Ref sig .tc := ⟨.hbm, 54, rfl⟩
abbrev main_v13 : Ref sig .tc := ⟨.hbm, 55, rfl⟩
abbrev main_c_5 : Ref sig .tc := ⟨.hbm, 56, rfl⟩
abbrev main_call3_v0 : Ref sig .tc := ⟨.hbm, 57, rfl⟩
abbrev main_call3_c : Ref sig .tc := ⟨.hbm, 58, rfl⟩
abbrev main_call3_v1 : Ref sig .tc := ⟨.hbm, 59, rfl⟩
abbrev main_call3_c_0 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_c_1 : Ref sig .tc := ⟨.hbm, 64, rfl⟩
abbrev main_call3_v5 : Ref sig .tc := ⟨.hbm, 65, rfl⟩
abbrev main_call3_v6 : Ref sig .tc := ⟨.hbm, 66, rfl⟩
abbrev main_call3_c_2 : Ref sig .tc := ⟨.hbm, 67, rfl⟩
abbrev main_call3_v7 : Ref sig .tc := ⟨.hbm, 68, rfl⟩
abbrev main_call3_v8 : Ref sig .tc := ⟨.hbm, 69, rfl⟩
abbrev main_call3_c_3 : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_v12 : Ref sig .tc := ⟨.hbm, 74, rfl⟩
abbrev main_call3_v13 : Ref sig .tc := ⟨.hbm, 75, rfl⟩
abbrev main_call3_v14 : Ref sig .tc := ⟨.hbm, 76, rfl⟩
abbrev main_v14 : Ref sig .tc := ⟨.hbm, 77, rfl⟩
abbrev main_v15 : Ref sig .tc := ⟨.hbm, 78, rfl⟩
abbrev main_c_6 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_c_7 : Ref sig .tc := ⟨.hbm, 85, rfl⟩
abbrev main_call4_v0 : Ref sig .tc := ⟨.hbm, 86, rfl⟩
abbrev main_call4_v1 : Ref sig .tc := ⟨.hbm, 87, rfl⟩
abbrev main_v21 : Ref sig .tc := ⟨.hbm, 88, rfl⟩
abbrev main_c_8 : Ref sig .tc := ⟨.hbm, 89, rfl⟩
abbrev main_v22 : Ref sig .tc := ⟨.hbm, 90, rfl⟩
abbrev main_v23 : Ref sig .tc := ⟨.hbm, 91, rfl⟩
abbrev main_call5_v0 : Ref sig .tc := ⟨.hbm, 92, rfl⟩
abbrev main_call5_call0_c : Ref sig .tc := ⟨.hbm, 93, rfl⟩
abbrev main_call5_call0_v0 : Ref sig .tc := ⟨.hbm, 94, rfl⟩
abbrev main_v24 : Ref sig .tc := ⟨.hbm, 95, rfl⟩
abbrev main_c_9 : Ref sig .tc := ⟨.hbm, 96, rfl⟩
abbrev main_v25 : Ref sig .tc := ⟨.hbm, 97, rfl⟩
abbrev main_c_10 : Ref sig .tc := ⟨.hbm, 98, rfl⟩
abbrev main_v26 : Ref sig .tc := ⟨.hbm, 99, rfl⟩
abbrev main_v27 : Ref sig .tc := ⟨.hbm, 100, rfl⟩
abbrev main_c_11 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_c_12 : Ref sig .tc := ⟨.hbm, 106, rfl⟩
abbrev main_v32 : Ref sig .tc := ⟨.hbm, 107, rfl⟩
abbrev main_v33 : Ref sig .tc := ⟨.hbm, 108, rfl⟩
abbrev main_call6_call0_c : Ref sig .tc := ⟨.hbm, 109, rfl⟩
abbrev main_call6_call0_v0 : Ref sig .tc := ⟨.hbm, 110, rfl⟩
abbrev main_v34 : Ref sig .tc := ⟨.hbm, 111, rfl⟩
abbrev main_c_13 : Ref sig .tc := ⟨.hbm, 112, rfl⟩
abbrev main_call7_v0 : Ref sig .tc := ⟨.hbm, 113, rfl⟩
abbrev main_call7_v1 : Ref sig .tc := ⟨.hbm, 114, rfl⟩
abbrev main_call7_v2 : Ref sig .tc := ⟨.hbm, 115, rfl⟩
abbrev main_call7_v3 : Ref sig .tc := ⟨.hbm, 116, rfl⟩
abbrev main_call7_v4 : Ref sig .tc := ⟨.hbm, 117, rfl⟩
abbrev main_call7_v5 : Ref sig .tc := ⟨.hbm, 118, rfl⟩
abbrev main_call7_v6 : Ref sig .tc := ⟨.hbm, 119, rfl⟩
abbrev main_call7_v7 : Ref sig .tc := ⟨.hbm, 120, rfl⟩
abbrev main_call7_v8 : Ref sig .tc := ⟨.hbm, 121, rfl⟩
abbrev main_call7_c : Ref sig .tc := ⟨.hbm, 122, rfl⟩
abbrev main_call7_v9 : Ref sig .tc := ⟨.hbm, 123, rfl⟩
abbrev main_call7_v10 : Ref sig .tc := ⟨.hbm, 124, rfl⟩
abbrev main_call7_v11 : Ref sig .tc := ⟨.hbm, 125, rfl⟩
abbrev main_call7_c_0 : Ref sig .tc := ⟨.hbm, 126, rfl⟩
abbrev main_call7_v12 : Ref sig .tc := ⟨.hbm, 127, rfl⟩
abbrev main_call7_v13 : Ref sig .tc := ⟨.hbm, 128, rfl⟩
abbrev main_v35 : Ref sig .tc := ⟨.hbm, 129, rfl⟩
abbrev main_c_14 : Ref sig .tc := ⟨.hbm, 130, rfl⟩
abbrev main_call8_v0 : Ref sig .tc := ⟨.hbm, 131, rfl⟩
abbrev main_call8_c : Ref sig .tc := ⟨.hbm, 132, rfl⟩
abbrev main_call8_v1 : Ref sig .tc := ⟨.hbm, 133, rfl⟩
abbrev main_call8_c_0 : Ref sig .tc := ⟨.hbm, 134, rfl⟩
abbrev main_call8_v2 : Ref sig .tc := ⟨.hbm, 135, rfl⟩
abbrev main_call8_v3 : Ref sig .tc := ⟨.hbm, 136, rfl⟩
abbrev main_call8_v4 : Ref sig .tc := ⟨.hbm, 137, rfl⟩
abbrev main_call8_c_1 : Ref sig .tc := ⟨.hbm, 138, rfl⟩
abbrev main_call8_v5 : Ref sig .tc := ⟨.hbm, 139, rfl⟩
abbrev main_call8_v6 : Ref sig .tc := ⟨.hbm, 140, rfl⟩
abbrev main_call8_c_2 : Ref sig .tc := ⟨.hbm, 141, rfl⟩
abbrev main_call8_v7 : Ref sig .tc := ⟨.hbm, 142, rfl⟩
abbrev main_call8_v8 : Ref sig .tc := ⟨.hbm, 143, rfl⟩
abbrev main_call8_c_3 : Ref sig .tc := ⟨.hbm, 144, rfl⟩
abbrev main_call8_v9 : Ref sig .tc := ⟨.hbm, 145, rfl⟩
abbrev main_call8_v10 : Ref sig .tc := ⟨.hbm, 146, rfl⟩
abbrev main_call8_v11 : Ref sig .tc := ⟨.hbm, 147, rfl⟩
abbrev main_call8_v12 : Ref sig .tc := ⟨.hbm, 148, rfl⟩
abbrev main_call8_v13 : Ref sig .tc := ⟨.hbm, 149, rfl⟩
abbrev main_call8_v14 : Ref sig .tc := ⟨.hbm, 150, rfl⟩
abbrev main_v36 : Ref sig .tc := ⟨.hbm, 151, rfl⟩
abbrev main_v37 : Ref sig .tc := ⟨.hbm, 152, rfl⟩
abbrev main_c_15 : Ref sig .tc := ⟨.hbm, 153, rfl⟩
abbrev main_v38 : Ref sig .tc := ⟨.hbm, 154, rfl⟩
abbrev main_v39 : Ref sig .tc := ⟨.hbm, 155, rfl⟩
abbrev main_v40 : Ref sig .tc := ⟨.hbm, 156, rfl⟩
abbrev main_v41 : Ref sig .tc := ⟨.hbm, 157, rfl⟩
abbrev main_v42 : Ref sig .tc := ⟨.hbm, 158, rfl⟩
abbrev main_c_16 : Ref sig .tc := ⟨.hbm, 159, rfl⟩
abbrev main_call9_v0 : Ref sig .tc := ⟨.hbm, 160, rfl⟩
abbrev main_call9_v1 : Ref sig .tc := ⟨.hbm, 161, rfl⟩
abbrev main_v43 : Ref sig .tc := ⟨.hbm, 162, rfl⟩
abbrev main_c_17 : Ref sig .tc := ⟨.hbm, 163, rfl⟩
abbrev main_v44 : Ref sig .tc := ⟨.hbm, 164, rfl⟩
abbrev main_c_18 : Ref sig .tc := ⟨.hbm, 165, rfl⟩
abbrev main_call10_v0 : Ref sig .tc := ⟨.hbm, 166, rfl⟩
abbrev main_call10_v1 : Ref sig .tc := ⟨.hbm, 167, rfl⟩
abbrev main_v45 : Ref sig .tc := ⟨.hbm, 168, rfl⟩
abbrev main_c_19 : Ref sig .tc := ⟨.hbm, 169, rfl⟩
abbrev main_v46 : Ref sig .tc := ⟨.hbm, 170, rfl⟩
abbrev main_v47 : Ref sig .tc := ⟨.hbm, 171, rfl⟩
abbrev main_c_20 : Ref sig .tc := ⟨.hbm, 172, rfl⟩
abbrev main_v48 : Ref sig .tc := ⟨.hbm, 173, rfl⟩
abbrev main_v49 : Ref sig .tc := ⟨.hbm, 174, rfl⟩
abbrev main_v50 : Ref sig .tc := ⟨.hbm, 175, rfl⟩
abbrev main_v51 : Ref sig .tc := ⟨.hbm, 176, rfl⟩
abbrev main_c_21 : Ref sig .tc := ⟨.hbm, 177, rfl⟩
abbrev main_v52 : Ref sig .tc := ⟨.hbm, 178, rfl⟩
abbrev main_v53 : Ref sig .tc := ⟨.hbm, 179, rfl⟩
abbrev main_c_22 : Ref sig .tc := ⟨.hbm, 180, rfl⟩
abbrev main_v54 : Ref sig .tc := ⟨.hbm, 181, rfl⟩
abbrev main_v55 : Ref sig .tc := ⟨.hbm, 182, rfl⟩
abbrev main_c_23 : Ref sig .tc := ⟨.hbm, 183, rfl⟩
abbrev main_v56 : Ref sig .tc := ⟨.hbm, 184, rfl⟩
abbrev main_v57 : Ref sig .tc := ⟨.hbm, 185, rfl⟩
abbrev main_v58 : Ref sig .tc := ⟨.hbm, 186, rfl⟩
abbrev main_v59 : Ref sig .tc := ⟨.hbm, 187, rfl⟩
abbrev main_v60 : Ref sig .tc := ⟨.hbm, 188, rfl⟩
abbrev main_call11_v0 : Ref sig .tc := ⟨.hbm, 189, rfl⟩
abbrev main_call11_v1 : Ref sig .tc := ⟨.hbm, 190, rfl⟩
abbrev main_v61 : Ref sig .tc := ⟨.hbm, 191, rfl⟩
abbrev main_c_24 : Ref sig .tc := ⟨.hbm, 192, rfl⟩
abbrev main_v62 : Ref sig .tc := ⟨.hbm, 193, rfl⟩
abbrev main_c_25 : Ref sig .tc := ⟨.hbm, 194, rfl⟩
abbrev main_v63 : Ref sig .tc := ⟨.hbm, 195, rfl⟩
abbrev main_call12_call0_c : Ref sig .tc := ⟨.hbm, 196, rfl⟩
abbrev main_call12_call0_v0 : Ref sig .tc := ⟨.hbm, 197, rfl⟩
abbrev main_v64 : Ref sig .tc := ⟨.hbm, 198, rfl⟩
abbrev main_c_26 : Ref sig .tc := ⟨.hbm, 199, rfl⟩
abbrev main_v65 : Ref sig .tc := ⟨.hbm, 200, rfl⟩
abbrev main_c_27 : Ref sig .tc := ⟨.hbm, 201, rfl⟩
abbrev main_v66 : Ref sig .tc := ⟨.hbm, 202, rfl⟩
abbrev main_v67 : Ref sig .tc := ⟨.hbm, 203, rfl⟩
abbrev main_c_28 : Ref sig .tc := ⟨.hbm, 204, rfl⟩
abbrev main_v68 : Ref sig .tc := ⟨.hbm, 205, rfl⟩
abbrev main_v69 : Ref sig .tc := ⟨.hbm, 206, rfl⟩
abbrev main_v70 : Ref sig .tc := ⟨.hbm, 207, rfl⟩
abbrev main_v71 : Ref sig .tc := ⟨.hbm, 208, rfl⟩
abbrev main_c_29 : Ref sig .tc := ⟨.hbm, 209, rfl⟩
abbrev main_v72 : Ref sig .tc := ⟨.hbm, 210, rfl⟩
abbrev main_v73 : Ref sig .tc := ⟨.hbm, 211, rfl⟩
abbrev main_call13_call0_c : Ref sig .tc := ⟨.hbm, 212, rfl⟩
abbrev main_call13_call0_v0 : Ref sig .tc := ⟨.hbm, 213, rfl⟩
abbrev main_v74 : Ref sig .tc := ⟨.hbm, 214, rfl⟩
abbrev main_c_30 : Ref sig .tc := ⟨.hbm, 215, rfl⟩
abbrev main_v75 : Ref sig .tc := ⟨.hbm, 216, rfl⟩
abbrev main_v76 : Ref sig .tc := ⟨.hbm, 217, rfl⟩
abbrev main_call14_c : Ref sig .tc := ⟨.hbm, 218, rfl⟩
abbrev main_call14_v0 : Ref sig .tc := ⟨.hbm, 219, rfl⟩
abbrev main_call14_v1 : Ref sig .tc := ⟨.hbm, 220, rfl⟩
abbrev main_call14_c_0 : Ref sig .tc := ⟨.hbm, 221, rfl⟩
abbrev main_call14_v2 : Ref sig .tc := ⟨.hbm, 222, rfl⟩
abbrev main_call14_v3 : Ref sig .tc := ⟨.hbm, 223, rfl⟩
abbrev main_call14_v4 : Ref sig .tc := ⟨.hbm, 224, rfl⟩
abbrev main_call14_v5 : Ref sig .tc := ⟨.hbm, 225, rfl⟩
abbrev main_call14_c_1 : Ref sig .tc := ⟨.hbm, 226, rfl⟩
abbrev main_call14_c_2 : Ref sig .tc := ⟨.hbm, 227, rfl⟩
abbrev main_call14_v6 : Ref sig .tc := ⟨.hbm, 228, rfl⟩
abbrev main_call14_v7 : Ref sig .tc := ⟨.hbm, 229, rfl⟩
abbrev main_call14_v8 : Ref sig .tc := ⟨.hbm, 230, rfl⟩
abbrev main_call14_v9 : Ref sig .tc := ⟨.hbm, 231, rfl⟩
abbrev main_call14_v10 : Ref sig .tc := ⟨.hbm, 232, rfl⟩
abbrev main_call14_v11 : Ref sig .tc := ⟨.hbm, 233, rfl⟩
abbrev main_call14_c_3 : Ref sig .tc := ⟨.hbm, 234, rfl⟩
abbrev main_call14_v12 : Ref sig .tc := ⟨.hbm, 235, rfl⟩
abbrev main_call14_v13 : Ref sig .tc := ⟨.hbm, 236, rfl⟩
abbrev main_call14_v14 : Ref sig .tc := ⟨.hbm, 237, rfl⟩
abbrev main_call14_cst : Ref sig .tc := ⟨.hbm, 238, rfl⟩
abbrev main_call14_v15 : Ref sig .tc := ⟨.hbm, 239, rfl⟩
abbrev main_v77 : Ref sig .tc := ⟨.hbm, 240, rfl⟩
abbrev main_c_31 : Ref sig .tc := ⟨.hbm, 241, rfl⟩
abbrev main_v78 : Ref sig .tc := ⟨.hbm, 242, rfl⟩
abbrev main_v79 : Ref sig .tc := ⟨.hbm, 243, rfl⟩
abbrev main_c_32 : Ref sig .tc := ⟨.hbm, 244, rfl⟩
abbrev main_v80 : Ref sig .tc := ⟨.hbm, 245, rfl⟩
abbrev main_v81 : Ref sig .tc := ⟨.hbm, 246, rfl⟩
abbrev main_v82 : Ref sig .tc := ⟨.hbm, 247, rfl⟩
abbrev main_v83 : Ref sig .tc := ⟨.hbm, 248, rfl⟩
abbrev main_v84 : Ref sig .tc := ⟨.hbm, 249, rfl⟩
abbrev main_call15_v0 : Ref sig .tc := ⟨.hbm, 250, rfl⟩
abbrev main_call15_v1 : Ref sig .tc := ⟨.hbm, 251, rfl⟩
abbrev main_v85 : Ref sig .tc := ⟨.hbm, 252, rfl⟩
abbrev main_c_33 : Ref sig .tc := ⟨.hbm, 253, rfl⟩
abbrev main_v86 : Ref sig .tc := ⟨.hbm, 254, rfl⟩
abbrev main_c_34 : Ref sig .tc := ⟨.hbm, 255, rfl⟩
abbrev main_v87 : Ref sig .tc := ⟨.hbm, 256, rfl⟩
abbrev main_call16_call0_c : Ref sig .tc := ⟨.hbm, 257, rfl⟩
abbrev main_call16_call0_v0 : Ref sig .tc := ⟨.hbm, 258, rfl⟩
abbrev main_v88 : Ref sig .tc := ⟨.hbm, 259, rfl⟩
abbrev main_c_35 : Ref sig .tc := ⟨.hbm, 260, rfl⟩
abbrev main_v89 : Ref sig .tc := ⟨.hbm, 261, rfl⟩
abbrev main_c_36 : Ref sig .tc := ⟨.hbm, 262, rfl⟩
abbrev main_v90 : Ref sig .tc := ⟨.hbm, 263, rfl⟩
abbrev main_v91 : Ref sig .tc := ⟨.hbm, 264, rfl⟩
abbrev main_c_37 : Ref sig .tc := ⟨.hbm, 265, rfl⟩
abbrev main_v92 : Ref sig .tc := ⟨.hbm, 266, rfl⟩
abbrev main_v93 : Ref sig .tc := ⟨.hbm, 267, rfl⟩
abbrev main_v94 : Ref sig .tc := ⟨.hbm, 268, rfl⟩
abbrev main_v95 : Ref sig .tc := ⟨.hbm, 269, rfl⟩
abbrev main_c_38 : Ref sig .tc := ⟨.hbm, 270, rfl⟩
abbrev main_v96 : Ref sig .tc := ⟨.hbm, 271, rfl⟩
abbrev main_v97 : Ref sig .tc := ⟨.hbm, 272, rfl⟩
abbrev main_call17_call0_c : Ref sig .tc := ⟨.hbm, 273, rfl⟩
abbrev main_call17_call0_v0 : Ref sig .tc := ⟨.hbm, 274, rfl⟩
abbrev main_v98 : Ref sig .tc := ⟨.hbm, 275, rfl⟩
abbrev main_c_39 : Ref sig .tc := ⟨.hbm, 276, rfl⟩
abbrev main_v99 : Ref sig .tc := ⟨.hbm, 277, rfl⟩
abbrev main_v100 : Ref sig .tc := ⟨.hbm, 278, rfl⟩
abbrev main_call18_c : Ref sig .tc := ⟨.hbm, 279, rfl⟩
abbrev main_call18_v0 : Ref sig .tc := ⟨.hbm, 280, rfl⟩
abbrev main_call18_v1 : Ref sig .tc := ⟨.hbm, 281, rfl⟩
abbrev main_call18_c_0 : Ref sig .tc := ⟨.hbm, 282, rfl⟩
abbrev main_call18_v2 : Ref sig .tc := ⟨.hbm, 283, rfl⟩
abbrev main_call18_v3 : Ref sig .tc := ⟨.hbm, 284, rfl⟩
abbrev main_call18_v4 : Ref sig .tc := ⟨.hbm, 285, rfl⟩
abbrev main_call18_v5 : Ref sig .tc := ⟨.hbm, 286, rfl⟩
abbrev main_call18_c_1 : Ref sig .tc := ⟨.hbm, 287, rfl⟩
abbrev main_call18_c_2 : Ref sig .tc := ⟨.hbm, 288, rfl⟩
abbrev main_call18_v6 : Ref sig .tc := ⟨.hbm, 289, rfl⟩
abbrev main_call18_v7 : Ref sig .tc := ⟨.hbm, 290, rfl⟩
abbrev main_call18_v8 : Ref sig .tc := ⟨.hbm, 291, rfl⟩
abbrev main_call18_v9 : Ref sig .tc := ⟨.hbm, 292, rfl⟩
abbrev main_call18_v10 : Ref sig .tc := ⟨.hbm, 293, rfl⟩
abbrev main_call18_v11 : Ref sig .tc := ⟨.hbm, 294, rfl⟩
abbrev main_call18_c_3 : Ref sig .tc := ⟨.hbm, 295, rfl⟩
abbrev main_call18_v12 : Ref sig .tc := ⟨.hbm, 296, rfl⟩
abbrev main_call18_v13 : Ref sig .tc := ⟨.hbm, 297, rfl⟩
abbrev main_call18_v14 : Ref sig .tc := ⟨.hbm, 298, rfl⟩
abbrev main_call18_cst : Ref sig .tc := ⟨.hbm, 299, rfl⟩
abbrev main_call18_v15 : Ref sig .tc := ⟨.hbm, 300, rfl⟩
abbrev main_v101 : Ref sig .tc := ⟨.hbm, 301, rfl⟩
abbrev main_v102 : Ref sig .tc := ⟨.hbm, 302, rfl⟩
abbrev main_v103 : Ref sig .tc := ⟨.hbm, 303, rfl⟩
abbrev main_v104 : Ref sig .tc := ⟨.hbm, 304, rfl⟩
abbrev main_v105 : Ref sig .tc := ⟨.hbm, 305, rfl⟩
abbrev main_v106 : Ref sig .tc := ⟨.hbm, 306, rfl⟩
abbrev main_v107 : Ref sig .tc := ⟨.hbm, 307, rfl⟩
abbrev main_v108 : Ref sig .tc := ⟨.hbm, 308, rfl⟩
abbrev main_v109 : Ref sig .tc := ⟨.hbm, 309, rfl⟩
abbrev main_v110 : Ref sig .tc := ⟨.hbm, 310, rfl⟩
abbrev main_v111 : Ref sig .tc := ⟨.hbm, 311, rfl⟩
abbrev main_v112 : Ref sig .tc := ⟨.hbm, 312, rfl⟩
abbrev main_v113 : Ref sig .tc := ⟨.hbm, 313, rfl⟩
abbrev main_v114 : Ref sig .tc := ⟨.hbm, 314, rfl⟩
abbrev main_v115 : Ref sig .tc := ⟨.hbm, 315, rfl⟩
abbrev main_v116 : Ref sig .tc := ⟨.hbm, 316, rfl⟩
abbrev main_v117 : Ref sig .tc := ⟨.hbm, 317, rfl⟩
abbrev main_v118 : Ref sig .tc := ⟨.hbm, 318, rfl⟩
abbrev main_v119 : Ref sig .tc := ⟨.hbm, 319, rfl⟩
abbrev main_v120 : Ref sig .tc := ⟨.hbm, 320, rfl⟩
abbrev main_v121 : Ref sig .tc := ⟨.hbm, 321, rfl⟩
abbrev main_v122 : Ref sig .tc := ⟨.hbm, 322, rfl⟩
abbrev main_v123 : Ref sig .tc := ⟨.hbm, 323, rfl⟩
abbrev main_v124 : Ref sig .tc := ⟨.hbm, 324, rfl⟩
abbrev main_v125 : Ref sig .tc := ⟨.hbm, 325, rfl⟩
abbrev main_v126 : Ref sig .tc := ⟨.hbm, 326, rfl⟩
abbrev main_cst : Ref sig .tc := ⟨.hbm, 327, rfl⟩
abbrev main_v127 : Ref sig .tc := ⟨.hbm, 328, rfl⟩
abbrev main_v128 : Ref sig .tc := ⟨.hbm, 329, rfl⟩
abbrev main_v129 : Ref sig .tc := ⟨.hbm, 330, rfl⟩
abbrev main_v130 : Ref sig .tc := ⟨.hbm, 331, rfl⟩
abbrev main_v131 : Ref sig .tc := ⟨.hbm, 332, rfl⟩
abbrev main_v132 : Ref sig .tc := ⟨.hbm, 333, rfl⟩
abbrev main_v133 : Ref sig .tc := ⟨.hbm, 334, rfl⟩
abbrev main_v134 : Ref sig .tc := ⟨.hbm, 335, rfl⟩
abbrev main_v135 : Ref sig .tc := ⟨.hbm, 336, rfl⟩
abbrev main_v136 : Ref sig .tc := ⟨.hbm, 337, rfl⟩
abbrev main_cst_40 : Ref sig .tc := ⟨.hbm, 338, rfl⟩
abbrev main_call19_v0 : Ref sig .tc := ⟨.hbm, 339, rfl⟩
abbrev main_call19_v1 : Ref sig .tc := ⟨.hbm, 340, rfl⟩
abbrev main_call19_v2 : Ref sig .tc := ⟨.hbm, 341, rfl⟩
abbrev main_v137 : Ref sig .tc := ⟨.hbm, 342, rfl⟩
abbrev main_cst_41 : Ref sig .tc := ⟨.hbm, 343, rfl⟩
abbrev main_v138 : Ref sig .tc := ⟨.hbm, 344, rfl⟩
abbrev main_v139 : Ref sig .tc := ⟨.hbm, 345, rfl⟩
abbrev main_c_42 : Ref sig .tc := ⟨.hbm, 346, rfl⟩
abbrev main_v140 : Ref sig .tc := ⟨.hbm, 347, rfl⟩
abbrev main_v141 : Ref sig .tc := ⟨.hbm, 348, rfl⟩
abbrev main_c_43 : Ref sig .tc := ⟨.hbm, 349, rfl⟩
abbrev main_v142 : Ref sig .tc := ⟨.hbm, 350, rfl⟩
abbrev main_v143 : Ref sig .tc := ⟨.hbm, 351, rfl⟩
abbrev main_v144 : Ref sig .tc := ⟨.hbm, 352, rfl⟩
abbrev main_v145 : Ref sig .tc := ⟨.hbm, 353, rfl⟩
abbrev main_v146 : Ref sig .tc := ⟨.hbm, 354, rfl⟩
abbrev main_v147 : Ref sig .tc := ⟨.hbm, 355, rfl⟩
abbrev main_v148 : Ref sig .tc := ⟨.hbm, 356, rfl⟩
abbrev main_cst_44 : Ref sig .tc := ⟨.hbm, 357, rfl⟩
abbrev main_v149 : Ref sig .tc := ⟨.hbm, 358, rfl⟩
abbrev main_v150 : Ref sig .tc := ⟨.hbm, 359, rfl⟩
abbrev main_v151 : Ref sig .tc := ⟨.hbm, 360, rfl⟩
abbrev main_c_45 : Ref sig .tc := ⟨.hbm, 361, rfl⟩
abbrev main_v152 : Ref sig .tc := ⟨.hbm, 362, rfl⟩
abbrev main_v153 : Ref sig .tc := ⟨.hbm, 363, rfl⟩
abbrev main_c_46 : Ref sig .tc := ⟨.hbm, 364, rfl⟩
abbrev main_v154 : Ref sig .tc := ⟨.hbm, 365, rfl⟩
abbrev main_v155 : Ref sig .tc := ⟨.hbm, 366, rfl⟩
abbrev main_v156 : Ref sig .tc := ⟨.hbm, 367, rfl⟩
abbrev main_v157 : Ref sig .tc := ⟨.hbm, 368, rfl⟩
abbrev main_v158 : Ref sig .tc := ⟨.hbm, 369, rfl⟩
abbrev main_v159 : Ref sig .tc := ⟨.hbm, 370, rfl⟩
abbrev main_v160 : Ref sig .tc := ⟨.hbm, 371, rfl⟩
abbrev main_v161 : Ref sig .tc := ⟨.hbm, 372, rfl⟩
abbrev main_cst_47 : Ref sig .tc := ⟨.hbm, 373, rfl⟩
abbrev main_v162 : Ref sig .tc := ⟨.hbm, 374, rfl⟩
abbrev main_v163 : Ref sig .tc := ⟨.hbm, 375, rfl⟩
abbrev main_v164 : Ref sig .tc := ⟨.hbm, 376, rfl⟩
abbrev main_v165 : Ref sig .tc := ⟨.hbm, 377, rfl⟩
abbrev main_cst_48 : Ref sig .tc := ⟨.hbm, 378, rfl⟩
abbrev main_v166 : Ref sig .tc := ⟨.hbm, 379, rfl⟩
abbrev main_v167 : Ref sig .tc := ⟨.hbm, 380, rfl⟩
abbrev main_v168 : Ref sig .tc := ⟨.hbm, 381, rfl⟩
abbrev main_v169 : Ref sig .tc := ⟨.hbm, 382, rfl⟩
abbrev main_v170 : Ref sig .tc := ⟨.hbm, 383, rfl⟩
abbrev main_v171 : Ref sig .tc := ⟨.hbm, 384, rfl⟩
abbrev main_v172 : Ref sig .tc := ⟨.hbm, 385, rfl⟩
abbrev main_v173 : Ref sig .tc := ⟨.hbm, 386, rfl⟩
abbrev main_v174 : Ref sig .tc := ⟨.hbm, 387, rfl⟩
abbrev main_v175 : Ref sig .tc := ⟨.hbm, 388, rfl⟩
abbrev main_cst_49 : Ref sig .tc := ⟨.hbm, 389, rfl⟩
abbrev main_call20_v0 : Ref sig .tc := ⟨.hbm, 390, rfl⟩
abbrev main_call20_v1 : Ref sig .tc := ⟨.hbm, 391, rfl⟩
abbrev main_call20_v2 : Ref sig .tc := ⟨.hbm, 392, rfl⟩
abbrev main_v176 : Ref sig .tc := ⟨.hbm, 393, rfl⟩
abbrev main_cst_50 : Ref sig .tc := ⟨.hbm, 394, rfl⟩
abbrev main_v177 : Ref sig .tc := ⟨.hbm, 395, rfl⟩
abbrev main_v178 : Ref sig .tc := ⟨.hbm, 396, rfl⟩
abbrev main_c_51 : Ref sig .tc := ⟨.hbm, 397, rfl⟩
abbrev main_v179 : Ref sig .tc := ⟨.hbm, 398, rfl⟩
abbrev main_v180 : Ref sig .tc := ⟨.hbm, 399, rfl⟩
abbrev main_c_52 : Ref sig .tc := ⟨.hbm, 400, rfl⟩
abbrev main_v181 : Ref sig .tc := ⟨.hbm, 401, rfl⟩
abbrev main_v182 : Ref sig .tc := ⟨.hbm, 402, rfl⟩
abbrev main_v183 : Ref sig .tc := ⟨.hbm, 403, rfl⟩
abbrev main_v184 : Ref sig .tc := ⟨.hbm, 404, rfl⟩
abbrev main_v185 : Ref sig .tc := ⟨.hbm, 405, rfl⟩
abbrev main_v186 : Ref sig .tc := ⟨.hbm, 406, rfl⟩
abbrev main_v187 : Ref sig .tc := ⟨.hbm, 407, rfl⟩
abbrev main_cst_53 : Ref sig .tc := ⟨.hbm, 408, rfl⟩
abbrev main_v188 : Ref sig .tc := ⟨.hbm, 409, rfl⟩
abbrev main_v189 : Ref sig .tc := ⟨.hbm, 410, rfl⟩
abbrev main_v190 : Ref sig .tc := ⟨.hbm, 411, rfl⟩
abbrev main_c_54 : Ref sig .tc := ⟨.hbm, 412, rfl⟩
abbrev main_v191 : Ref sig .tc := ⟨.hbm, 413, rfl⟩
abbrev main_v192 : Ref sig .tc := ⟨.hbm, 414, rfl⟩
abbrev main_c_55 : Ref sig .tc := ⟨.hbm, 415, rfl⟩
abbrev main_v193 : Ref sig .tc := ⟨.hbm, 416, rfl⟩
abbrev main_v194 : Ref sig .tc := ⟨.hbm, 417, rfl⟩
abbrev main_v195 : Ref sig .tc := ⟨.hbm, 418, rfl⟩
abbrev main_v196 : Ref sig .tc := ⟨.hbm, 419, rfl⟩
abbrev main_v197 : Ref sig .tc := ⟨.hbm, 420, rfl⟩
abbrev main_v198 : Ref sig .tc := ⟨.hbm, 421, rfl⟩
abbrev main_v199 : Ref sig .tc := ⟨.hbm, 422, rfl⟩
abbrev main_v200 : Ref sig .tc := ⟨.hbm, 423, rfl⟩
abbrev main_cst_56 : Ref sig .tc := ⟨.hbm, 424, rfl⟩
abbrev main_v201 : Ref sig .tc := ⟨.hbm, 425, rfl⟩
abbrev main_v202 : Ref sig .tc := ⟨.hbm, 426, rfl⟩
abbrev main_v203 : Ref sig .tc := ⟨.hbm, 427, rfl⟩

abbrev nD : Nat := 1
abbrev τ : Topo := Topo.v7x

variable {F : FTy → Type} [FloatOps F]
-- ==== Proof.Blocks.lean ====
/-
  The input blocks of the kernel at a grid point, as the argument arrays: the node features are cut in blocks of 4096
  rows, every weight and every bias is one block, the same at each point.
-/
module

public import proofs.«01_k».proof.Proof.Gen.KernelIdeal.Value
public import Idealize.ShloMosaic.Lib.Pipeline.Value
public import Idealize.ShloMosaic.Lib.Claim
public import Idealize.ShloMosaic.Lib.Pipeline.ValueKit.Acc
public import Idealize.ShloMosaic.Lib.Pipeline.ValueKit.Point

@[expose] public section

noncomputable section

namespace Cert.KernelIdeal.Blocks

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The block index of each window: the features move one block per point, all else stays. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

/-- The feature block of point `t` is rows `4096 t` and on of the features. -/
theorem iblk0 (c : Dev nD) (t : Fin cfg0.N) (r : Fin 4096) (k : Fin 256) (h : t.val * 4096 + r.val < 65536) :
    iblk m c 0 t (ix2 r k) = m ((c : Thread nD τ).loc main_arg0) (ix2 ⟨t.val * 4096 + r.val, h⟩ k) := by
  blk_ext! [iblk, V, idx t]

theorem iblk1 (c : Dev nD) (t : Fin cfg0.N) : iblk m c 1 t = m ((c : Thread nD τ).loc main_arg3) := by
  blk_ext! [iblk, V, idx t]

theorem iblk3 (c : Dev nD) (t : Fin cfg0.N) : iblk m c 3 t = m ((c : Thread nD τ).loc main_arg5) := by
  blk_ext! [iblk, V, idx t]

theorem iblk4 (c : Dev nD) (t : Fin cfg0.N) : iblk m c 4 t = m ((c : Thread nD τ).loc main_arg7) := by
  blk_ext! [iblk, V, idx t]

theorem iblk6 (c : Dev nD) (t : Fin cfg0.N) : iblk m c 6 t = m ((c : Thread nD τ).loc main_arg9) := by
  blk_ext! [iblk, V, idx t]

theorem iblk8 (c : Dev nD) (t : Fin cfg0.N) : iblk m c 8 t = m ((c : Thread nD τ).loc main_arg11) := by
  blk_ext! [iblk, V, idx t]

theorem iblk9 (c : Dev nD) (t : Fin cfg0.N) : iblk m c 9 t = m ((c : Thread nD τ).loc main_arg13) := by
  blk_ext! [iblk, V, idx t]

/-- A bias is passed as one row of 256: its block reads the bias at the column. -/
theorem iblk2 (c : Dev nD) (t : Fin cfg0.N) (k : Fin 256) :
    iblk m c 2 t (ix2 0 k) = m ((c : Thread nD τ).loc main_arg4) (ix1 k) := by
  blk_ext! [iblk, V, idx t]

theorem iblk5 (c : Dev nD) (t : Fin cfg0.N) (k : Fin 256) :
    iblk m c 5 t (ix2 0 k) = m ((c : Thread nD τ).loc main_arg8) (ix1 k) := by
  blk_ext! [iblk, V, idx t]

theorem iblk7 (c : Dev nD) (t : Fin cfg0.N) (k : Fin 256) :
    iblk m c 7 t (ix2 0 k) = m ((c : Thread nD τ).loc main_arg10) (ix1 k) := by
  blk_ext! [iblk, V, idx t]

theorem iblk10 (c : Dev nD) (t : Fin cfg0.N) (k : Fin 256) :
    iblk m c 10 t (ix2 0 k) = m ((c : Thread nD τ).loc main_arg14) (ix1 k) := by
  blk_ext! [iblk, V, idx t]

end Cert.KernelIdeal.Blocks

end
-- ==== Proof.State.lean ====
/-
  What the kernel's buffers hold after each grid point: the five scratch values are made at the first point and stay, and
  the two output blocks are the body's value over the point's features and the scratch.
-/
module

public import proofs.«01_k».proof.Proof.Blocks
public import Idealize.ShloMosaic.Lib.Pipeline.ReadBack

@[expose] public section

noncomputable section

namespace Cert.KernelIdeal.State

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The value weights side by side: what the two stores leave in the fifth scratch. -/
def wide (a b : FVec F S256x256 .bf16) : Vec F S256x512 .bf16 :=
  View.canon (Val := Elt F) (s := S256x512) (e := .bf16)
    [⟨Rect.unit ![0, 256] ![256, 256] inb_S256x512_S256x256_0_256, b⟩,
     ⟨Rect.unit ![0, 0] ![256, 256] inb_S256x512_S256x256_0_0, a⟩]

/-- Reading the whole scratch after the two stores. -/
theorem readCov_wide {κ : Kind} {sp : Space} (v : View sig κ sp S256x512 .bf16) (a b : FVec F S256x256 .bf16) :
    v.readCov (Val := Elt F) [⟨Rect.unit ![0, 256] ![256, 256] inb_S256x512_S256x256_0_256, b⟩,
      ⟨Rect.unit ![0, 0] ![256, 256] inb_S256x512_S256x256_0_0, a⟩]
      (Rect.unit ![0, 0] ![256, 512] inb_S256x512_S256x512_0_0).toLoadRect = wide a b := by
  rw [View.readCov_eq_canon']
  exact View.ld_unit_zero (S := S256x512) (by funext d; fin_cases d <;> rfl) _ (wide a b)

/-- The left half is the first matrix. -/
theorem wide_left (a b : FVec F S256x256 .bf16) (k : Fin 256) (h : Fin 256) :
    wide a b (ix2 k ⟨h.val, by omega⟩) = a (ix2 k h) := by
  unfold wide
  rw [View.canon_cons_of_not_mem]
  · have e : (ix2 k ⟨h.val, by omega⟩ : S256x512.Idx)
        = (Rect.unit (s := S256x512) ![0, 0] ![256, 256] inb_S256x512_S256x256_0_0).emb (ix2 k h) := by
      funext d; apply Fin.ext; match d with | ⟨0, _⟩ => simp [ix2] | ⟨1, _⟩ => simp [ix2]
    rw [e]; exact View.canon_cons_emb _ _ _ _
  · rw [Rect.mem_set_unit]
    intro hh
    have := (hh ⟨1, by decide⟩).1
    simp [ix2] at this
    omega

/-- The right half is the second. -/
theorem wide_right (a b : FVec F S256x256 .bf16) (k : Fin 256) (h : Fin 256) :
    wide a b (ix2 k ⟨256 + h.val, by omega⟩) = b (ix2 k h) := by
  unfold wide
  have e : (ix2 k ⟨256 + h.val, by omega⟩ : S256x512.Idx)
      = (Rect.unit (s := S256x512) ![0, 256] ![256, 256] inb_S256x512_S256x256_0_256).emb (ix2 k h) := by
    funext d; apply Fin.ext; match d with | ⟨0, _⟩ => simp [ix2] | ⟨1, _⟩ => simp [ix2]
  rw [e]; exact View.canon_cons_emb _ _ _ _

/-- The five scratch values, in the kernel's order. -/
def scratch (c : Dev nD) (t : Fin cfg0.N) :
    Vec F S256x256 .f32 × Vec F S256x256 .f32 × Vec F S1x256 .f32 × Vec F S1x256 .f32 × Vec F S256x512 .bf16 :=
  (k0_pay1 (iblk m c 1 t) (iblk m c 3 t), k0_pay2 (iblk m c 6 t) (iblk m c 8 t), k0_pay3 (iblk m c 2 t) (iblk m c 3 t),
    k0_pay4 (iblk m c 7 t) (iblk m c 8 t), wide (k0_pay5 (iblk m c 4 t)) (k0_pay6 (iblk m c 9 t)))

/-- The first output block over a feature block, the scratch and the bias. -/
def outI (x : Vec F S4096x256 .f32)
    (s : Vec F S256x256 .f32 × Vec F S256x256 .f32 × Vec F S1x256 .f32 × Vec F S1x256 .f32 × Vec F S256x512 .bf16)
    (b : Vec F S1x256 .f32) : Vec F S64x256 .f32 :=
  k0_pay14 k0_pay7 k0_pay8 (k0_pay9 x) (k0_pay11 x s.1 s.2.2.1) (k0_pay12 x s.2.1) s.2.2.2.1 s.2.2.2.2 b

/-- The second output block likewise. -/
def outU (x : Vec F S4096x256 .f32)
    (s : Vec F S256x256 .f32 × Vec F S256x256 .f32 × Vec F S1x256 .f32 × Vec F S1x256 .f32 × Vec F S256x512 .bf16)
    (b : Vec F S1x256 .f32) : Vec F S64x256 .f32 :=
  k0_pay15 k0_pay7 k0_pay8 (k0_pay9 x) (k0_pay11 x s.1 s.2.2.1) (k0_pay12 x s.2.1) s.2.2.2.1 s.2.2.2.2 b

/-- Two rows of 256 agreeing at every column are equal. -/
theorem row_ext {x y : Vec F S1x256 .f32} (h : ∀ k : Fin 256, x (ix2 0 k) = y (ix2 0 k)) : x = y := by
  funext j
  have hj : j = ix2 (0 : Fin 1) (j 1) := by
    funext d; match d with
      | ⟨0, _⟩ => exact Fin.ext (by have := (j 0).isLt; simp [ix2] at this ⊢)
      | ⟨1, _⟩ => rfl
  rw [hj]; exact h _

/-- The scratch values are the same read at any point: their windows never move. -/
theorem scratch_const (c : Dev nD) (t t' : Fin cfg0.N) : scratch m c t = scratch m c t' := by
  have e2 : iblk m c 2 t = iblk m c 2 t' := by
    exact row_ext fun k => (Blocks.iblk2 m c t k).trans (Blocks.iblk2 m c t' k).symm
  have e7 : iblk m c 7 t = iblk m c 7 t' := by
    exact row_ext fun k => (Blocks.iblk7 m c t k).trans (Blocks.iblk7 m c t' k).symm
  unfold scratch
  rw [Blocks.iblk1, Blocks.iblk3, Blocks.iblk4, Blocks.iblk6, Blocks.iblk8, Blocks.iblk9,
    Blocks.iblk1, Blocks.iblk3, Blocks.iblk4, Blocks.iblk6, Blocks.iblk8, Blocks.iblk9, e2, e7]

/-- The first point: the scratch made, the outputs over it. -/
theorem first (c : Dev nD) (t : Fin cfg0.N) (h0 : t.val % 16 = 0) :
    outsAt0 m c t.val t.isLt = (outI (iblk m c 0 t) (scratch m c t) (iblk m c 5 t),
      outU (iblk m c 0 t) (scratch m c t) (iblk m c 10 t), scratch m c t) := by
  rw [outsAt0_A m c t h0]
  frame_out
  rw [readCov_wide]
  rfl

/-- A later point: the scratch kept, the outputs over it. -/
theorem later (c : Dev nD) (t : Fin cfg0.N) (h0 : ¬t.val % 16 = 0)
    (s : Vec F S256x256 .f32 × Vec F S256x256 .f32 × Vec F S1x256 .f32 × Vec F S1x256 .f32 × Vec F S256x512 .bf16)
    (hs : (outsAt0 m c (t.val - 1) (Nat.lt_of_le_of_lt (Nat.sub_le _ _) t.isLt)).2.2 = s) :
    outsAt0 m c t.val t.isLt = (outI (iblk m c 0 t) s (iblk m c 5 t), outU (iblk m c 0 t) s (iblk m c 10 t), s) := by
  subst hs
  rw [outsAt0_B m c t h0]
  frame_out
  simp only [read_unread_whole]
  rfl

/-- After every point: the scratch of the first, and the outputs of the point. -/
theorem after (c : Dev nD) : ∀ (n : ℕ) (h : n < cfg0.N),
    outsAt0 m c n h = (outI (iblk m c 0 ⟨n, h⟩) (scratch m c ⟨n, h⟩) (iblk m c 5 ⟨n, h⟩),
      outU (iblk m c 0 ⟨n, h⟩) (scratch m c ⟨n, h⟩) (iblk m c 10 ⟨n, h⟩), scratch m c ⟨n, h⟩)
  | 0, h => first m c ⟨0, h⟩ rfl
  | n + 1, h => by
    have hN : cfg0.N = 16 := N_0
    refine later m c ⟨n + 1, h⟩ (by dsimp only; omega) _ ?_
    show (outsAt0 m c n _).2.2 = _
    rw [after c n]
    exact scratch_const m c _ _

end Cert.KernelIdeal.State

end
-- ==== Proof.Attention.lean ====
/-
  One head of attention from one target row over one graph's 64 nodes, in real numbers: the reference's form (queries,
  keys, values with their biases) and the kernel's form (the weights multiplied first, the key bias left out, the
  value bias added last), and why the two are equal. The value bias may be infinite.
-/
module

public import Idealize.ShloMosaic.PureOps.Ideal
public import Mathlib.Data.Finset.Fold
public import Mathlib.Algebra.BigOperators.Fin

@[expose] public section

noncomputable section

open scoped BigOperators

namespace Cert.Attention

open Idealize.ShloMosaic

/-- A finite sum of reals is the same sum among the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- The softmax weight of entry `i` of a list of scores. -/
def wt {n : ℕ} (s : Fin n → ℝ) (i : Fin n) : ℝ := Real.exp (s i) / ∑ j, Real.exp (s j)

/-- The weights do not change when one number is taken from every score. -/
theorem wt_shift {n : ℕ} (s : Fin n → ℝ) (c : ℝ) (i : Fin n) :
    Real.exp (s i - c) / ∑ j, Real.exp (s j - c) = wt s i := by
  unfold wt
  simp only [Real.exp_sub]
  rw [← Finset.sum_div, div_div_div_cancel_right₀ (Real.exp_ne_zero c)]

/-- Nor when one number is added to every score. -/
theorem wt_add {n : ℕ} (s s' : Fin n → ℝ) (c : ℝ) (h : ∀ i, s' i = s i + c) : wt s' = wt s := by
  funext i
  rw [← wt_shift s' c i]
  unfold wt
  simp only [h, add_sub_cancel_right]

/-- The sum of the exponentials is not zero. -/
theorem sum_exp_pos {n : ℕ} (s : Fin n → ℝ) (i : Fin n) : 0 < ∑ j, Real.exp (s j) :=
  Finset.sum_pos (fun _ _ => Real.exp_pos _) ⟨i, Finset.mem_univ i⟩

/-- The weights sum to one. -/
theorem wt_sum {n : ℕ} (s : Fin n → ℝ) (i : Fin n) : ∑ j, wt s j = 1 := by
  unfold wt
  rw [← Finset.sum_div, div_self (sum_exp_pos s i).ne']

/-- The greatest of finitely many real scores, taken from minus infinity, is a real number. -/
theorem fold_max_real {n : ℕ} (s : Fin n → ℝ) (i : Fin n) :
    ∃ r : ℝ, Finset.univ.fold max (⊥ : EReal) (fun j => (s j : EReal)) = (r : EReal) := by
  have hb : Finset.univ.fold max (⊥ : EReal) (fun j => (s j : EReal)) ≠ ⊥ := by
    intro h
    have := (Finset.le_fold_max (s := Finset.univ) (b := (⊥ : EReal)) (f := fun j => (s j : EReal)) (s i : EReal)).mpr
      (Or.inr ⟨i, Finset.mem_univ i, le_rfl⟩)
    rw [h] at this
    exact EReal.coe_ne_bot _ (le_bot_iff.mp this)
  have ht : Finset.univ.fold max (⊥ : EReal) (fun j => (s j : EReal)) ≠ ⊤ := by
    refine ne_of_lt ((Finset.fold_max_lt _).mpr ⟨bot_lt_top, fun j _ => EReal.coe_lt_top _⟩)
  exact ⟨_, (EReal.coe_toReal ht hb).symm⟩

/-- The quotient of two reals, the divisor not zero. -/
theorem div_real {a b : ℝ} (h : b ≠ 0) : Ideal.div (a : EReal) (b : EReal) = ((a / b : ℝ) : EReal) := by
  rw [Ideal.div_coe h, ← EReal.coe_mul, mul_one_div]

/-- The exponential of a difference of reals. -/
theorem exp_sub_real (a b : ℝ) : Ideal.exp ((a : EReal) - (b : EReal)) = ((Real.exp (a - b) : ℝ) : EReal) := by
  rw [← EReal.coe_sub, Ideal.exp_coe]

/-- Softmax over the extended reals, at real scores less any one real number, is the real weight. -/
theorem softmax_real {n : ℕ} (s : Fin n → ℝ) (c : ℝ) (i : Fin n) :
    Ideal.div (Ideal.exp ((s i : EReal) - (c : EReal))) (∑ j, Ideal.exp ((s j : EReal) - (c : EReal)))
      = ((wt s i : ℝ) : EReal) := by
  simp only [exp_sub_real]
  rw [← coe_sum, div_real (sum_exp_pos (fun j => s j - c) i).ne', wt_shift]

/-- Every weight is positive. -/
theorem wt_pos {n : ℕ} (s : Fin n → ℝ) (i : Fin n) : 0 < wt s i := div_pos (Real.exp_pos _) (sum_exp_pos s i)

/-- A sum of equal terms, each unchanged when doubled, is the term. -/
theorem sum_same {n : ℕ} (b : EReal) (h : b + b = b) : ∑ _i : Fin (n + 1), b = b := by
  induction n with
  | zero => simp
  | succ n ih => rw [Fin.sum_univ_succ, ih, h]

/-- A weighted sum of real values, one extended real number added to each: the number may be added at the end, finite or not. -/
theorem weighted_add {n : ℕ} (s v : Fin (n + 1) → ℝ) (b : EReal) :
    ∑ i, ((v i : EReal) + b) * ((wt s i : ℝ) : EReal) = ((∑ i, v i * wt s i : ℝ) : EReal) + b := by
  induction b using EReal.rec with
  | bot =>
    simp only [EReal.add_bot, fun i => EReal.bot_mul_coe_of_pos (wt_pos s i)]
    exact sum_same _ (EReal.add_bot _)
  | top =>
    simp only [EReal.coe_add_top, fun i => EReal.top_mul_coe_of_pos (wt_pos s i)]
    exact sum_same _ EReal.top_add_top
  | coe r =>
    simp only [← EReal.coe_add, ← EReal.coe_mul]
    rw [← coe_sum]
    congr 1
    simp only [add_mul, Finset.sum_add_distrib, ← Finset.mul_sum, wt_sum s 0, mul_one]

/-! ## The two forms of the readout -/

section Forms

variable (t : Fin 256 → ℝ) (f : Fin 64 → Fin 256 → ℝ) (qW kW vW : Fin 256 → Fin 256 → ℝ) (qb kb : Fin 256 → ℝ)

/-- The reference's score of node `n`: query times key. -/
def score (n : Fin 64) : ℝ := ∑ l, (∑ j, t j * qW j l + qb l) * (∑ k, f n k * kW k l + kb l)

/-- The reference's readout at feature `h`, the value bias aside: the weighted sum of the values. -/
def readout (h : Fin 256) : ℝ := ∑ n, (∑ k, f n k * vW k h) * wt (score t f qW kW qb kb) n

/-- The kernel's row of key coefficients: the target through the product of the two weight matrices. -/
def coeff (k : Fin 256) : ℝ := ∑ j, t j * (∑ l, qW j l * kW k l) + ∑ l, qb l * kW k l

/-- The kernel's score. -/
def kscore (n : Fin 64) : ℝ := ∑ k, f n k * coeff t qW kW qb k

/-- The kernel's readout, the value bias aside: the weighted features through the value weights. -/
def kreadout (h : Fin 256) : ℝ := ∑ k, (∑ n, wt (kscore t f qW kW qb) n * f n k) * vW k h

/-- The two scores differ by the query times the key bias, the same for every node. -/
theorem score_eq (n : Fin 64) :
    score t f qW kW qb kb n = kscore t f qW kW qb n + ∑ l, (∑ j, t j * qW j l + qb l) * kb l := by
  have h1 : ∀ k, coeff t qW kW qb k = ∑ l, (∑ j, t j * qW j l + qb l) * kW k l := by
    intro k
    unfold coeff
    simp only [add_mul, Finset.sum_add_distrib, Finset.sum_mul, Finset.mul_sum]
    rw [Finset.sum_comm]
    simp only [mul_assoc]
  unfold score kscore
  simp only [h1, mul_add, Finset.sum_add_distrib, Finset.mul_sum]
  rw [Finset.sum_comm]
  congr 1
  refine Finset.sum_congr rfl fun k _ => Finset.sum_congr rfl fun l _ => ?_
  ring

/-- So the weights agree. -/
theorem wt_score_eq : wt (score t f qW kW qb kb) = wt (kscore t f qW kW qb) :=
  wt_add _ _ _ (score_eq t f qW kW qb kb)

/-- And so do the readouts. -/
theorem kreadout_eq (h : Fin 256) : kreadout t f qW kW vW qb h = readout t f qW kW vW qb kb h := by
  unfold kreadout readout
  rw [wt_score_eq]
  simp only [Finset.sum_mul]
  rw [Finset.sum_comm]
  refine Finset.sum_congr rfl fun k _ => Finset.sum_congr rfl fun l _ => ?_
  ring

end Forms

/-! ## Sums over the rows of a block of 64 graphs -/

/-- Row `n` of graph `g` of a block. -/
abbrev row (g n : Fin 64) : Fin 4096 := ⟨g.val * 64 + n.val, by omega⟩

/-- Node `n` of graph `b` among all the nodes. -/
abbrev node (b : Fin 1024) (n : Fin 64) : Fin 65536 := ⟨b.val * 64 + n.val, by omega⟩

/-- A sum over the rows of a block, every row of another graph masked away, is the sum over the graph's nodes. -/
theorem sum_masked (g : Fin 64) (a : Fin 64 → ℝ) (x : Fin 4096 → ℝ) :
    ∑ r : Fin 4096, (a ⟨r.val % 64, Nat.mod_lt _ (by decide)⟩ * if g.val = r.val / 64 then 1 else 0) * x r
      = ∑ n, a n * x (row g n) := by
  have e : ∀ (b n : Fin 64), (finProdFinEquiv (b, n) : Fin (64 * 64)) = row b n :=
    fun b n => Fin.ext (by show n.val + 64 * b.val = b.val * 64 + n.val; omega)
  have e2 : ∀ (b n : Fin 64), (⟨(row b n).val % 64, Nat.mod_lt _ (by decide)⟩ : Fin 64) = n :=
    fun b n => Fin.ext (by show (b.val * 64 + n.val) % 64 = n.val; omega)
  have e3 : ∀ (b n : Fin 64), (row b n).val / 64 = b.val :=
    fun b n => by show (b.val * 64 + n.val) / 64 = b.val; omega
  rw [← (finProdFinEquiv (m := 64) (n := 64)).sum_comp, Fintype.sum_prod_type, Finset.sum_eq_single g]
  · refine Finset.sum_congr rfl fun n _ => ?_
    rw [e, e2, e3, if_pos rfl, mul_one]
  · intro b _ hb
    refine Finset.sum_eq_zero fun n _ => ?_
    rw [e, e2, e3, if_neg (fun h => hb (Fin.ext h.symm)), mul_zero, zero_mul]
  · intro h; exact absurd (Finset.mem_univ g) h

/-- A sum over the graphs of a block, all but one masked away. -/
theorem sum_graph (g : Fin 64) (a : Fin 64 → ℝ) : ∑ b : Fin 64, a b * (if g.val = b.val then 1 else 0) = a g := by
  rw [Finset.sum_eq_single g]
  · simp
  · intro b _ hb; rw [if_neg (fun h => hb (Fin.ext h.symm)), mul_zero]
  · intro h; exact absurd (Finset.mem_univ g) h

end Cert.Attention

end
-- ==== Proof.Payload.lean ====
/-
  The kernel body's value cut in steps -- key coefficients, masked scores, weights, pooled features -- and each step
  read at one index.
-/
module

public import proofs.«01_k».proof.Proof.State
public import proofs.«01_k».proof.Proof.Attention

@[expose] public section

noncomputable section

namespace Cert.KernelIdeal.Payload

open Cert.KernelIdeal Cert.KernelIdeal.Gen Idealize.ShloMosaic Idealize.ShloMosaic.TcCoe Idealize.SL.Sem

section Steps

variable {F : FTy → Type} [FloatOps F]

/-- The 128 rows of key coefficients: 64 targets of the first kind, then 64 of the second. -/
def coeffs (a b : FVec F S64x256 .f32) (d : Vec F S1x256 .f32) : FVec F S128x256 .bf16 :=
  truncf .bf16 (concatenate S128x256 0 [⟨S64x256, a⟩, ⟨S64x256, addf b (broadcastTo S64x256 d broadcasts_S1x256_S64x256)⟩]
    concatenates_S64x256_S64x256_S128x256_d0) bitsLt_bf16_f32

/-- Every feature row against every coefficient row. -/
def products (x : FVec F S4096x256 .bf16) (c2 : FVec F S128x256 .bf16) : FVec F S4096x128 .f32 :=
  matmul dot_S4096x256_S128x256_S4096x128_1_1_0_0_n_n none x c2 (constant S4096x128 .f32 0x00000000#32)

/-- The scores of each target over its own graph's nodes. -/
def scores (sel : FVec F S64x1x128 .f32) (p : FVec F S4096x128 .f32) : FVec F S64x128 .f32 :=
  multiReduction .add [0] S64x128 (mulf (shapeCast S64x64x128 p shapeCasts_S4096x128_S64x64x128)
    (broadcastTo S64x64x128 sel broadcasts_S64x1x128_S64x64x128)) 0x00000000#32 reduces_S64x64x128_S64x128 (.inl rfl) rfl

/-- The exponentials of the scores less the greatest of the column. -/
def expo (st : FVec F S64x128 .f32) : FVec F S64x128 .f32 :=
  exp (subf st (broadcastTo S64x128 (shapeCast S1x128 (multiReduction .maximumf [0] S128 st 0xFF800000#32
    reduces_S64x128_S128 (.inl rfl) rfl) shapeCasts_S128_S1x128) broadcasts_S1x128_S64x128))

/-- The exponentials over their column sums. -/
def weights (e : FVec F S64x128 .f32) : FVec F S64x128 .bf16 :=
  truncf .bf16 (divf e (broadcastTo S64x128 (shapeCast S1x128 (multiReduction .add [0] S128 e 0x00000000#32
    reduces_S64x128_S128 (.inl rfl) rfl) shapeCasts_S128_S1x128) broadcasts_S1x128_S64x128)) bitsLt_bf16_f32

/-- The features pooled with the masked weights. -/
def pooled (sel : FVec F S64x1x128 .bf16) (x : FVec F S4096x256 .bf16) (w : FVec F S64x128 .bf16) : FVec F S128x256 .bf16 :=
  truncf .bf16 (matmul dot_S4096x128_S4096x256_S128x256_0_0_1_1_n_n none (shapeCast S4096x128
    (mulf (broadcastTo S64x64x128 (shapeCast S1x64x128 w shapeCasts_S64x128_S1x64x128) broadcasts_S1x64x128_S64x64x128)
      (broadcastTo S64x64x128 sel broadcasts_S64x1x128_S64x64x128)) shapeCasts_S64x64x128_S4096x128) x
    (constant S128x256 .f32 0x00000000#32)) bitsLt_bf16_f32

/-- The pooled features through the value weights. -/
def through (p : FVec F S128x256 .bf16) (w : Vec F S256x512 .bf16) : FVec F S128x512 .f32 :=
  matmul dot_S128x256_S256x512_S128x512_1_0_0_1_n_n none p w (constant S128x512 .f32 0x00000000#32)

/-- The body's value is its steps, one after another. -/
theorem pay13_steps (s : FVec F S64x1x128 .f32) (s' : FVec F S64x1x128 .bf16) (x : FVec F S4096x256 .bf16)
    (a b : FVec F S64x256 .f32) (d : Vec F S1x256 .f32) (w : Vec F S256x512 .bf16) :
    k0_pay13 s s' x a b d w
      = through (pooled s' x (weights (expo (scores s (products x (coeffs a b d)))))) w := rfl

end Steps

/-! ## Each step at an index -/

/-- The column's number modulo 64, the way the body computes it. -/
def modWord (m : ℕ) : BitVec 32 :=
  let y : BitVec 32 := Scalar.select (Scalar.cmpi .eq 64#32 0#32) 1#32 64#32
  let r := IntOp.remsi .vector (BitVec.ofNat 32 m) y
  Scalar.select (IntOp.andi (IntOp.xori (IntOp.cmpi .slt r 0#32) (Scalar.cmpi .slt y 0#32)) (IntOp.cmpi .ne r 0#32))
    (IntOp.addi r y) r

theorem modWord_eq : ∀ m : Fin 128, modWord m.val = BitVec.ofNat 32 (m.val % 64) := by decide +kernel

/-- The mask as a word: column `m` belongs to graph `m % 64`. -/
theorem mask_word (r g : Fin 64) :
    (BitVec.setWidth 32 (IntOp.cmpi .eq (BitVec.ofNat 32 r.val) (BitVec.ofNat 32 g.val))).toInt
      = if g.val = r.val then 1 else 0 := by
  revert r g; decide +kernel

/-- The mask at an index. -/
theorem pay7_at (g : Fin 64) (m : Fin 128) :
    k0_pay7 (F := Ideal) (ix3 g 0 m) = ((if g.val = m.val % 64 then 1 else 0 : ℝ) : EReal) := by
  pointwise [k0_pay7]
  change (((BitVec.setWidth 32 (IntOp.cmpi .eq (modWord m.val) (BitVec.ofNat 32 g.val))).toInt : ℝ) : EReal) = _
  rw [modWord_eq, mask_word ⟨m.val % 64, Nat.mod_lt _ (by decide)⟩ g]
  split_ifs <;> simp

/-- The mask in the narrower type. -/
theorem pay8_at (g : Fin 64) (m : Fin 128) :
    k0_pay8 (F := Ideal) (ix3 g 0 m) = ((if g.val = m.val % 64 then 1 else 0 : ℝ) : EReal) := by
  rw [← pay7_at]
  pointwise [k0_pay8]

theorem coeffs_first (a b : FVec Ideal S64x256 .f32) (d) (g : Fin 64) (k : Fin 256) :
    coeffs a b d (ix2 ⟨g.val, by omega⟩ k) = a (ix2 g k) := by
  pointwise [coeffs]

theorem coeffs_second (a b : FVec Ideal S64x256 .f32) (d) (g : Fin 64) (k : Fin 256) :
    coeffs a b d (ix2 ⟨64 + g.val, by omega⟩ k) = b (ix2 g k) + d (ix2 0 k) := by
  pointwise [coeffs]

theorem products_at (x : FVec Ideal S4096x256 .bf16) (c2 : FVec Ideal S128x256 .bf16) (r : Fin 4096) (m : Fin 128) :
    products x c2 (ix2 r m) = ∑ k : Fin 256, x (ix2 r k) * c2 (ix2 m k) := by
  pointwise [products]

theorem scores_at (sel : FVec Ideal S64x1x128 .f32) (p : FVec Ideal S4096x128 .f32) (n : Fin 64) (m : Fin 128) :
    scores sel p (ix2 n m) = ∑ g : Fin 64, p (ix2 (Attention.row g n) m) * sel (ix3 g 0 m) := by
  pointwise [scores]

theorem expo_at (st : FVec Ideal S64x128 .f32) (n : Fin 64) (m : Fin 128) :
    expo st (ix2 n m)
      = Ideal.exp (st (ix2 n m) - Finset.univ.fold max (⊥ : EReal) (fun j : Fin 64 => st (ix2 j m))) := by
  have hb : Ideal.ofBits .f32 0xFF800000#32 = ⊥ := by simp [Ideal.ofBits, Ideal.ieee]
  pointwise [expo, hb]

theorem weights_at (e : FVec Ideal S64x128 .f32) (n : Fin 64) (m : Fin 128) :
    weights e (ix2 n m) = Ideal.div (e (ix2 n m)) (∑ j : Fin 64, e (ix2 j m)) := by
  pointwise [weights]

theorem pooled_at (sel : FVec Ideal S64x1x128 .bf16) (x : FVec Ideal S4096x256 .bf16) (w : FVec Ideal S64x128 .bf16)
    (m : Fin 128) (k : Fin 256) :
    pooled sel x w (ix2 m k) = ∑ r : Fin 4096, (w (ix2 ⟨r.val % 64, Nat.mod_lt _ (by decide)⟩ m)
      * sel (ix3 ⟨r.val / 64, by omega⟩ 0 m)) * x (ix2 r k) := by
  pointwise [pooled]

theorem through_at (p : FVec Ideal S128x256 .bf16) (w : Vec Ideal S256x512 .bf16) (m : Fin 128) (h : Fin 512) :
    through p w (ix2 m h) = ∑ k : Fin 256, p (ix2 m k) * w (ix2 k h) := by
  pointwise [through]

/-! ## One column of a block, at real values -/

open Attention in
/-- The pooled features of one target, the block and the target's coefficients real. -/
theorem pooled_real (x : FVec Ideal S4096x256 .bf16) (X : Fin 4096 → Fin 256 → ℝ) (hx : ∀ r k, x (ix2 r k) = (X r k : EReal))
    (c2 : FVec Ideal S128x256 .bf16) (m : Fin 128) (g : Fin 64) (hg : m.val % 64 = g.val) (C : Fin 256 → ℝ)
    (hc : ∀ k, c2 (ix2 m k) = (C k : EReal)) (k : Fin 256) :
    pooled k0_pay8 x (weights (expo (scores k0_pay7 (products x c2)))) (ix2 m k)
      = ((∑ n, wt (fun n => ∑ k, X (row g n) k * C k) n * X (row g n) k : ℝ) : EReal) := by
  have hp : ∀ r, products x c2 (ix2 r m) = ((∑ k, X r k * C k : ℝ) : EReal) := by
    intro r
    rw [products_at, coe_sum]
    simp only [hx, hc, EReal.coe_mul]
  have hs : ∀ n, scores k0_pay7 (products x c2) (ix2 n m) = ((∑ k, X (row g n) k * C k : ℝ) : EReal) := by
    intro n
    rw [scores_at]
    simp only [hp, pay7_at, hg]
    rw [← sum_graph g (fun b => ∑ k, X (row b n) k * C k), coe_sum]
    simp only [EReal.coe_mul, eq_comm (a := g.val)]
  obtain ⟨c, hcm⟩ := fold_max_real (fun n => ∑ k, X (row g n) k * C k) (0 : Fin 64)
  have he : ∀ n, expo (scores k0_pay7 (products x c2)) (ix2 n m)
      = Ideal.exp (((∑ k, X (row g n) k * C k : ℝ) : EReal) - (c : EReal)) := by
    intro n
    rw [expo_at]
    simp only [hs]
    rw [hcm]
  have hw : ∀ n, weights (expo (scores k0_pay7 (products x c2))) (ix2 n m)
      = ((wt (fun n => ∑ k, X (row g n) k * C k) n : ℝ) : EReal) := by
    intro n
    rw [weights_at]
    simp only [he]
    exact softmax_real _ c n
  rw [pooled_at]
  simp only [hw, hx, pay8_at, hg]
  rw [← sum_masked g _ (fun r => X r k), coe_sum]
  simp only [EReal.coe_mul, eq_comm (a := g.val)]

open Attention in
/-- The block's result row of one target and one column of the value weights. -/
theorem column_real (x : FVec Ideal S4096x256 .bf16) (X : Fin 4096 → Fin 256 → ℝ)
    (hx : ∀ r k, x (ix2 r k) = (X r k : EReal)) (c2 : FVec Ideal S128x256 .bf16) (w : Vec Ideal S256x512 .bf16)
    (m : Fin 128) (g : Fin 64) (hg : m.val % 64 = g.val) (C : Fin 256 → ℝ) (hc : ∀ k, c2 (ix2 m k) = (C k : EReal))
    (h : Fin 512) (V : Fin 256 → ℝ) (hv : ∀ k, w (ix2 k h) = (V k : EReal)) :
    through (pooled k0_pay8 x (weights (expo (scores k0_pay7 (products x c2))))) w (ix2 m h)
      = ((∑ k, (∑ n, wt (fun n => ∑ k, X (row g n) k * C k) n * X (row g n) k) * V k : ℝ) : EReal) := by
  rw [through_at, coe_sum]
  simp only [pooled_real x X hx c2 m g hg C hc, hv, EReal.coe_mul]

/-- The first kind's coefficients. -/
theorem pay11_at (x : Vec Ideal S4096x256 .f32) (a : Vec Ideal S256x256 .f32) (d : Vec Ideal S1x256 .f32) (g : Fin 64)
    (k : Fin 256) : k0_pay11 x a d (ix2 g k)
      = (∑ j : Fin 256, x (ix2 (Attention.row g 0) j) * a (ix2 j k)) + d (ix2 0 k) := by
  pointwise [k0_pay11, k0_pay10]
  rfl

/-- The second kind's coefficients, the constant row not yet added. -/
theorem pay12_at (x : Vec Ideal S4096x256 .f32) (a : Vec Ideal S256x256 .f32) (g : Fin 64)
    (k : Fin 256) : k0_pay12 x a (ix2 g k)
      = (∑ j : Fin 256, x (ix2 (Attention.row g 1) j) * a (ix2 j k)) := by
  pointwise [k0_pay12, k0_pay10]
  rfl

theorem pay9_at (x : Vec Ideal S4096x256 .f32) (r : Fin 4096) (k : Fin 256) : k0_pay9 x (ix2 r k) = x (ix2 r k) := by
  pointwise [k0_pay9]

theorem pay14_at (s : FVec Ideal S64x1x128 .f32) (s' : FVec Ideal S64x1x128 .bf16) (x : FVec Ideal S4096x256 .bf16)
    (a b : FVec Ideal S64x256 .f32) (d : Vec Ideal S1x256 .f32) (w : Vec Ideal S256x512 .bf16) (v : Vec Ideal S1x256 .f32)
    (g : Fin 64) (h : Fin 256) :
    k0_pay14 s s' x a b d w v (ix2 g h) = k0_pay13 s s' x a b d w (ix2 ⟨g.val, by omega⟩ ⟨h.val, by omega⟩) + v (ix2 0 h) := by
  pointwise [k0_pay14]

theorem pay15_at (s : FVec Ideal S64x1x128 .f32) (s' : FVec Ideal S64x1x128 .bf16) (x : FVec Ideal S4096x256 .bf16)
    (a b : FVec Ideal S64x256 .f32) (d : Vec Ideal S1x256 .f32) (w : Vec Ideal S256x512 .bf16) (v : Vec Ideal S1x256 .f32)
    (g : Fin 64) (h : Fin 256) :
    k0_pay15 s s' x a b d w v (ix2 g h)
      = k0_pay13 s s' x a b d w (ix2 ⟨64 + g.val, by omega⟩ ⟨256 + h.val, by omega⟩) + v (ix2 0 h) := by
  pointwise [k0_pay15]

end Cert.KernelIdeal.Payload

end
-- ==== Proof.Result.lean ====
/-
  What the kernel's two result arrays hold, the arguments real but for the value biases: row `b` is the readout of graph `b` from its first node
  (first result) and from its second node (second result), in the kernel's form.
-/
module

public import proofs.«01_k».proof.Proof.Payload

@[expose] public section

noncomputable section

namespace Cert.KernelIdeal.Result

open Cert.KernelIdeal Cert.KernelIdeal.Gen Cert.KernelIdeal.State Cert.KernelIdeal.Payload Cert.KernelIdeal.Value
open Cert.Attention Idealize.ShloMosaic Idealize.ShloMosaic.TcCoe Idealize.SL.Sem

/-! ## The scratch at an index -/

theorem pay1_at (a b : Vec Ideal S256x256 .f32) (i j : Fin 256) :
    k0_pay1 a b (ix2 i j) = ∑ l : Fin 256, a (ix2 i l) * b (ix2 j l) := by
  pointwise [k0_pay1]

theorem pay2_at (a b : Vec Ideal S256x256 .f32) (i j : Fin 256) :
    k0_pay2 a b (ix2 i j) = ∑ l : Fin 256, a (ix2 i l) * b (ix2 j l) := by
  pointwise [k0_pay2]

theorem pay3_at (a : Vec Ideal S1x256 .f32) (b : Vec Ideal S256x256 .f32) (j : Fin 256) :
    k0_pay3 a b (ix2 0 j) = ∑ l : Fin 256, a (ix2 0 l) * b (ix2 j l) := by
  pointwise [k0_pay3]

theorem pay4_at (a : Vec Ideal S1x256 .f32) (b : Vec Ideal S256x256 .f32) (j : Fin 256) :
    k0_pay4 a b (ix2 0 j) = ∑ l : Fin 256, a (ix2 0 l) * b (ix2 j l) := by
  pointwise [k0_pay4]

theorem pay5_at (a : Vec Ideal S256x256 .f32) (i j : Fin 256) : k0_pay5 a (ix2 i j) = a (ix2 i j) := by
  pointwise [k0_pay5]

theorem pay6_at (a : Vec Ideal S256x256 .f32) (i j : Fin 256) : k0_pay6 a (ix2 i j) = a (ix2 i j) := by
  pointwise [k0_pay6]

/-! ## One block -/

section Block

variable (x : Vec Ideal S4096x256 .f32)
    (s : Vec Ideal S256x256 .f32 × Vec Ideal S256x256 .f32 × Vec Ideal S1x256 .f32 × Vec Ideal S1x256 .f32
      × Vec Ideal S256x512 .bf16) (v : Vec Ideal S1x256 .f32)
    (X : Fin 4096 → Fin 256 → ℝ) (hx : ∀ r k, x (ix2 r k) = (X r k : EReal))
    (M : Fin 256 → Fin 256 → ℝ) (D : Fin 256 → ℝ) (W : Fin 256 → Fin 256 → ℝ)

include hx

/-- The first output block, its inputs real but for the value bias. -/
theorem outI_real (hm : ∀ j k, s.1 (ix2 j k) = (M j k : EReal)) (hd : ∀ k, s.2.2.1 (ix2 0 k) = (D k : EReal))
    (hw : ∀ k h : Fin 256, s.2.2.2.2 (ix2 k ⟨h.val, by omega⟩) = (W k h : EReal)) (g : Fin 64) (h : Fin 256) :
    outI x s v (ix2 g h) = ((∑ k, (∑ n, wt (fun n => ∑ k, X (row g n) k * (∑ j, X (row g 0) j * M j k + D k)) n
      * X (row g n) k) * W k h : ℝ) : EReal) + v (ix2 0 h) := by
  unfold outI
  rw [pay14_at, pay13_steps]
  rw [column_real _ X (fun r k => (pay9_at x r k).trans (hx r k)) _ _ ⟨g.val, by omega⟩ g (by show g.val % 64 = _; omega)
    (fun k => ∑ j, X (row g 0) j * M j k + D k) (fun k => by
      rw [coeffs_first, pay11_at]
      simp only [hx, hm, hd, EReal.coe_add, coe_sum, EReal.coe_mul]) _ (fun k => W k h) (fun k => hw k h)]

/-- The second output block likewise. -/
theorem outU_real (hm : ∀ j k, s.2.1 (ix2 j k) = (M j k : EReal)) (hd : ∀ k, s.2.2.2.1 (ix2 0 k) = (D k : EReal))
    (hw : ∀ k h : Fin 256, s.2.2.2.2 (ix2 k ⟨256 + h.val, by omega⟩) = (W k h : EReal)) (g : Fin 64) (h : Fin 256) :
    outU x s v (ix2 g h) = ((∑ k, (∑ n, wt (fun n => ∑ k, X (row g n) k * (∑ j, X (row g 1) j * M j k + D k)) n
      * X (row g n) k) * W k h : ℝ) : EReal) + v (ix2 0 h) := by
  unfold outU
  rw [pay15_at, pay13_steps]
  rw [column_real _ X (fun r k => (pay9_at x r k).trans (hx r k)) _ _ ⟨64 + g.val, by omega⟩ g
    (by show (64 + g.val) % 64 = _; omega)
    (fun k => ∑ j, X (row g 1) j * M j k + D k) (fun k => by
      rw [coeffs_second, pay12_at]
      simp only [hx, hm, hd, EReal.coe_add, coe_sum, EReal.coe_mul]) _ (fun k => W k h) (fun k => hw k h)]

end Block

/-! ## The two arrays -/

section Arrays

variable (m : (ℓ : Loc nD τ sig) → Buf (Elt Ideal) ℓ) (c : Dev nD)
    (X : Fin 65536 → Fin 256 → ℝ) (hx : ∀ r k, m ((c : Thread nD τ).loc main_arg0) (ix2 r k) = (X r k : EReal))
    (qW kW vW : Fin 256 → Fin 256 → ℝ) (qb : Fin 256 → ℝ)

include hx

/-- Row `b` of the first result. -/
theorem G11_real (hq : ∀ i j, m ((c : Thread nD τ).loc main_arg3) (ix2 i j) = (qW i j : EReal))
    (hqb : ∀ i, m ((c : Thread nD τ).loc main_arg4) (ix1 i) = (qb i : EReal))
    (hk : ∀ i j, m ((c : Thread nD τ).loc main_arg5) (ix2 i j) = (kW i j : EReal))
    (hv : ∀ i j, m ((c : Thread nD τ).loc main_arg7) (ix2 i j) = (vW i j : EReal)) (b : Fin 1024) (h : Fin 256) :
    G11 m c (ix2 b h)
      = ((kreadout (X (node b 0)) (fun n => X (node b n)) qW kW vW qb h : ℝ) : EReal)
        + (m ((c : Thread nD τ).loc main_arg8) (ix1 h) : EReal) := by
  have hN : cfg0.N = 16 := N_0
  have hp : pt11Of (ix2 b h) = b.val / 64 := by
    show 1 * (b.val / 64 - 0) + 1 * (h.val / 256 - 0) = b.val / 64
    have := h.isLt; omega
  have hl : loc11Of (ix2 b h) = ix2 (⟨b.val % 64, Nat.mod_lt _ (by decide)⟩ : Fin 64) h := by
    funext d; match d with
      | ⟨0, _⟩ => rfl
      | ⟨1, _⟩ => exact Fin.ext (Nat.mod_eq_of_lt h.isLt)
  have hlt : pt11Of (ix2 b h) < cfg0.N := by rw [hp, hN]; omega
  unfold G11
  rw [dif_pos hlt, ← outsAt0_sweep m c _ hlt, after, hl]
  show outI _ _ _ _ = _
  set t : Fin cfg0.N := ⟨pt11Of (ix2 b h), hlt⟩ with ht
  have htv : t.val = b.val / 64 := hp
  have hr : ∀ n : Fin 64, t.val * 4096 + (row ⟨b.val % 64, Nat.mod_lt _ (by decide)⟩ n).val = b.val * 64 + n.val := by
    intro n; rw [htv]; show b.val / 64 * 4096 + (b.val % 64 * 64 + n.val) = _; omega
  have hlr : ∀ r : Fin 4096, t.val * 4096 + r.val < 65536 := fun r => by rw [htv]; omega
  rw [outI_real _ _ _ (fun r k => X ⟨t.val * 4096 + r.val, hlr r⟩ k)
    (fun r k => (Blocks.iblk0 m c t r k (hlr r)).trans (hx _ k)) (fun j k => ∑ l, qW j l * kW k l)
    (fun k => ∑ l, qb l * kW k l) vW
    (fun j k => by
      show k0_pay1 _ _ (ix2 j k) = _
      rw [pay1_at, Blocks.iblk1, Blocks.iblk3]
      simp only [hq, hk, coe_sum, EReal.coe_mul])
    (fun k => by
      show k0_pay3 _ _ (ix2 0 k) = _
      rw [pay3_at, Blocks.iblk3]
      simp only [Blocks.iblk2, hqb, hk, coe_sum, EReal.coe_mul])
    (fun k h => by
      refine (wide_left _ _ k h).trans ?_
      rw [pay5_at, Blocks.iblk4]
      exact hv k h), Blocks.iblk5]
  have hn : ∀ n : Fin 64, (⟨t.val * 4096 + (row ⟨b.val % 64, Nat.mod_lt _ (by decide)⟩ n).val, hlr _⟩ : Fin 65536)
      = node b n := fun n => Fin.ext (hr n)
  simp only [hn]
  rfl

/-- Row `b` of the second result. -/
theorem G12_real (hq : ∀ i j, m ((c : Thread nD τ).loc main_arg9) (ix2 i j) = (qW i j : EReal))
    (hqb : ∀ i, m ((c : Thread nD τ).loc main_arg10) (ix1 i) = (qb i : EReal))
    (hk : ∀ i j, m ((c : Thread nD τ).loc main_arg11) (ix2 i j) = (kW i j : EReal))
    (hv : ∀ i j, m ((c : Thread nD τ).loc main_arg13) (ix2 i j) = (vW i j : EReal)) (b : Fin 1024) (h : Fin 256) :
    G12 m c (ix2 b h)
      = ((kreadout (X (node b 1)) (fun n => X (node b n)) qW kW vW qb h : ℝ) : EReal)
        + (m ((c : Thread nD τ).loc main_arg14) (ix1 h) : EReal) := by
  have hN : cfg0.N = 16 := N_0
  have hp : pt12Of (ix2 b h) = b.val / 64 := by
    show 1 * (b.val / 64 - 0) + 1 * (h.val / 256 - 0) = b.val / 64
    have := h.isLt; omega
  have hl : loc12Of (ix2 b h) = ix2 (⟨b.val % 64, Nat.mod_lt _ (by decide)⟩ : Fin 64) h := by
    funext d; match d with
      | ⟨0, _⟩ => rfl
      | ⟨1, _⟩ => exact Fin.ext (Nat.mod_eq_of_lt h.isLt)
  have hlt : pt12Of (ix2 b h) < cfg0.N := by rw [hp, hN]; omega
  unfold G12
  rw [dif_pos hlt, ← outsAt0_sweep m c _ hlt, after, hl]
  show outU _ _ _ _ = _
  set t : Fin cfg0.N := ⟨pt12Of (ix2 b h), hlt⟩ with ht
  have htv : t.val = b.val / 64 := hp
  have hr : ∀ n : Fin 64, t.val * 4096 + (row ⟨b.val % 64, Nat.mod_lt _ (by decide)⟩ n).val = b.val * 64 + n.val := by
    intro n; rw [htv]; show b.val / 64 * 4096 + (b.val % 64 * 64 + n.val) = _; omega
  have hlr : ∀ r : Fin 4096, t.val * 4096 + r.val < 65536 := fun r => by rw [htv]; omega
  rw [outU_real _ _ _ (fun r k => X ⟨t.val * 4096 + r.val, hlr r⟩ k)
    (fun r k => (Blocks.iblk0 m c t r k (hlr r)).trans (hx _ k)) (fun j k => ∑ l, qW j l * kW k l)
    (fun k => ∑ l, qb l * kW k l) vW
    (fun j k => by
      show k0_pay2 _ _ (ix2 j k) = _
      rw [pay2_at, Blocks.iblk6, Blocks.iblk8]
      simp only [hq, hk, coe_sum, EReal.coe_mul])
    (fun k => by
      show k0_pay4 _ _ (ix2 0 k) = _
      rw [pay4_at, Blocks.iblk8]
      simp only [Blocks.iblk7, hqb, hk, coe_sum, EReal.coe_mul])
    (fun k h => by
      refine (wide_right _ _ k h).trans ?_
      rw [pay6_at, Blocks.iblk9]
      exact hv k h), Blocks.iblk10]
  have hn : ∀ n : Fin 64, (⟨t.val * 4096 + (row ⟨b.val % 64, Nat.mod_lt _ (by decide)⟩ n).val, hlr _⟩ : Fin 65536)
      = node b n := fun n => Fin.ext (hr n)
  simp only [hn]
  rfl

end Arrays

end Cert.KernelIdeal.Result

end
-- ==== Proof.Lands.lean ====
module

public import Idealize.ShloMosaic.Lib.Routing.OpsPair
public import Idealize.ShloMosaic.Lib.Routing.Words
public import Idealize.ShloMosaic.PureOps.Ideal

@[expose] public section

noncomputable section

namespace Cert.Lands

open Idealize.ShloMosaic Idealize.ShloMosaic.Routing Idealize.ShloMosaic.ValueIdx

/-! Scatters whose indices are one column of `K` words, into an array of `N` rows (`K` and `N` unrelated). -/

/-- Where an update's scatter coordinate is `p`, it reads its index word at row `p` of the column. -/
theorem reads_row {K : Nat} {s u : Shape} (d : ScatterDims s (shape2 K 1) u) (hivd : d.indexVectorDim = 1)
    (k : u.Idx) (c : Fin d.scatterDimsToOperandDims.length) (p : Fin K)
    (hk : ∀ a ∈ d.uScatter, (k a).val = p.val) : d.siIdx k c = ix2 p (0 : Fin 1) := by
  funext b
  match b with
  | ⟨0, _⟩ =>
    apply Fin.ext
    unfold ScatterDims.siIdx
    rw [dif_neg (by rw [hivd]; exact Nat.zero_ne_one)]
    unfold ScatterDims.siCoord
    simp only [Fin.val_cast]
    exact hk _ (List.getElem_mem _)
  | ⟨1, _⟩ => exact Subsingleton.elim (α := Fin 1) _ _

/-- On the one scattered axis the window starts at the index word, read signed. -/
theorem starts_at {K : Nat} {s u : Shape} (d : ScatterDims s (shape2 K 1) u) (hivd : d.indexVectorDim = 1)
    (a : Fin s.rank) (hsd : d.scatterDimsToOperandDims = [a]) (k : u.Idx) (p : Fin K)
    (hk : ∀ a ∈ d.uScatter, (k a).val = p.val) (idx : IVec (shape2 K 1) 32) :
    d.start k idx a = (idx (ix2 p (0 : Fin 1))).toInt := by
  have hm : a ∈ d.scatterDimsToOperandDims := by rw [hsd]; exact List.mem_singleton.2 rfl
  unfold ScatterDims.start
  rw [dif_pos hm, reads_row d hivd k _ p hk]

/-- An inserted axis has no window coordinate. -/
theorem no_window {s si u : Shape} (d : ScatterDims s si u) (a : Fin s.rank) (hiw : a ∈ d.insertedWindowDims) (k : u.Idx) :
    d.window k a = 0 := by
  have hn : a ∉ d.sKept := fun h => absurd hiw (of_decide_eq_true (List.mem_filter.1 h).2)
  unfold ScatterDims.window
  rw [dif_neg hn]

/-- Update `i` of a scatter of scalars lands at entry `x` exactly when its index word is `x`. -/
theorem scalar_lands {K N : Nat} (d : ScatterDims (shape1 N) (shape2 K 1) (shape1 K)) (hiw : d.insertedWindowDims = [0])
    (hsd : d.scatterDimsToOperandDims = [0]) (hivd : d.indexVectorDim = 1) (idx : IVec (shape2 K 1) 32) (g : Nat → Nat)
    (hg : ∀ i : Fin K, idx (ix2 i (0 : Fin 1)) = BitVec.ofNat 32 (g i.val)) (hlt : ∀ i : Fin K, g i.val < 2 ^ 31)
    (i : Fin K) (x : Fin N) : d.resultIdx? (ix1 i) idx = some (ix1 x) ↔ g i.val = x.val := by
  rw [resultIdx?_ix1, no_window d 0 (by rw [hiw]; exact List.mem_singleton.2 rfl),
    starts_at d hivd 0 hsd (ix1 i) i (fun a _ => by
      obtain rfl : a = 0 := Subsingleton.elim (α := Fin 1) _ _
      rfl), hg, StableHlo.Predicate.toInt_ofNat_small _ (hlt i)]
  omega

/-- Adding one at each of `K` index words leaves, at entry `x`, the number of words equal to `x`. -/
theorem tally {K N : Nat} (d : ScatterDims (shape1 N) (shape2 K 1) (shape1 K)) (hiw : d.insertedWindowDims = [0])
    (hsd : d.scatterDimsToOperandDims = [0]) (hivd : d.indexVectorDim = 1) (x0 : IVec (shape1 N) 32) (hx0 : ∀ i, x0 i = 0#32)
    (idx : IVec (shape2 K 1) 32) (upd : IVec (shape1 K) 32) (hupd : ∀ i, upd i = 1#32) (g : Nat → Nat)
    (hg : ∀ i : Fin K, idx (ix2 i (0 : Fin 1)) = BitVec.ofNat 32 (g i.val)) (hlt : ∀ i : Fin K, g i.val < 2 ^ 31) (x : Fin N) :
    Host.scatter d IntOp.addi x0 idx upd (ix1 x) = BitVec.ofNat 32 (Nat.count (fun i => g i = x.val) K) := by
  rw [scatter_at]
  have key : ∀ (l : List (Fin (shape1 K).numel)) (z : Nat),
      l.foldl (fun a n => if d.resultIdx? ((shape1 K).rowMajor.symm n) idx = some (ix1 x)
        then IntOp.addi a (upd ((shape1 K).rowMajor.symm n)) else a) (BitVec.ofNat 32 z)
        = BitVec.ofNat 32 (z + l.countP (fun n => decide (g n.val = x.val))) := by
    intro l
    induction l with
    | nil => intro z; simp
    | cons n l ih =>
      intro z
      rw [List.foldl_cons, List.countP_cons, symm1, hupd]
      have hl := scalar_lands d hiw hsd hivd idx g hg hlt (n.cast (numel1 K)) x
      change _ ↔ g n.val = x.val at hl
      by_cases e : g n.val = x.val
      · rw [if_pos (hl.2 e), show IntOp.addi (BitVec.ofNat 32 z) 1#32 = BitVec.ofNat 32 (z + 1) from
          (BitVec.ofNat_add z 1).symm, ih, if_pos (decide_eq_true e)]
        congr 1
        omega
      · rw [if_neg fun h => e (hl.1 h), ih, if_neg (by simpa using e)]
        congr 1
  rw [show x0 (ix1 x) = BitVec.ofNat 32 0 from hx0 _, key, Nat.zero_add, countP_finRange _ (fun i => g i = x.val), numel1]

/-- Update `(p, c')` of a scatter of rows lands at `(r, c)` exactly when row `p`'s index word is `r` and the columns agree. -/
theorem row_lands {K N C : Nat} (d : ScatterDims (shape2 N C) (shape2 K 1) (shape2 K C)) (huw : d.updateWindowDims = [1])
    (hiw : d.insertedWindowDims = [0])
    (hsd : d.scatterDimsToOperandDims = [0]) (hivd : d.indexVectorDim = 1) (idx : IVec (shape2 K 1) 32) (g : Fin K → Fin N)
    (hN : N < 2 ^ 31) (hg : ∀ i : Fin K, idx (ix2 i (0 : Fin 1)) = BitVec.ofNat 32 (g i).val)
    (p : Fin K) (c' : Fin C) (r : Fin N) (c : Fin C) :
    d.resultIdx? (ix2 p c') idx = some (ix2 r c) ↔ g p = r ∧ c' = c := by
  have hsc : ∀ a ∈ d.uScatter, ((ix2 p c' : (shape2 K C).Idx) a).val = p.val := by
    intro a ha
    have hn : a ∉ d.updateWindowDims := of_decide_eq_true (List.mem_filter.1 ha).2
    rw [huw] at hn
    have h1 : a.val ≠ 1 := fun e => hn (List.mem_singleton.2 (Fin.ext e))
    have h2 : a.val < 2 := a.isLt
    obtain rfl : a = (0 : Fin 2) := Fin.ext (by show a.val = 0; omega)
    rfl
  have hkept : (1 : Fin 2) ∈ d.sKept := List.mem_filter.2 ⟨List.mem_finRange _, by
    rw [hiw]; exact decide_eq_true fun h => absurd (List.mem_singleton.1 h) (by decide : (1 : Fin 2) ≠ 0)⟩
  have hwin : d.window (ix2 p c') 1 = c'.val := by
    unfold ScatterDims.window
    rw [dif_pos hkept]
    have q : ∀ a ∈ d.updateWindowDims, ((ix2 p c' : (shape2 K C).Idx) a).val = c'.val := by
      intro a ha
      rw [huw] at ha
      obtain rfl := List.mem_singleton.1 ha
      rfl
    exact q _ (List.getElem_mem _)
  have hst : d.start (ix2 p c') idx 1 = 0 := by
    unfold ScatterDims.start
    rw [dif_neg fun h => by rw [hsd] at h; exact absurd (List.mem_singleton.1 h) (by decide : (1 : Fin 2) ≠ 0)]
  have hgl := (g p).isLt
  rw [resultIdx?_ix2, no_window d 0 (by rw [hiw]; exact List.mem_singleton.2 rfl), hwin, hst,
    starts_at d hivd 0 hsd (ix2 p c') p hsc, hg, StableHlo.Predicate.toInt_ofNat_small _ (by omega), Fin.ext_iff, Fin.ext_iff]
  omega

/-- The accumulating scatter of rows: entry `(r, c)` gains the sum of column `c` over the rows whose index word is `r`. -/
theorem rows_added {K N C : Nat} {φ : FTy} (d : ScatterDims (shape2 N C) (shape2 K 1) (shape2 K C)) (huw : d.updateWindowDims = [1])
    (hiw : d.insertedWindowDims = [0])
    (hsd : d.scatterDimsToOperandDims = [0]) (hivd : d.indexVectorDim = 1) (idx : IVec (shape2 K 1) 32) (g : Fin K → Fin N)
    (hN : N < 2 ^ 31) (hg : ∀ i : Fin K, idx (ix2 i (0 : Fin 1)) = BitVec.ofNat 32 (g i).val)
    (x : FVec Ideal (shape2 N C) φ) (upd : FVec Ideal (shape2 K C) φ) (r : Fin N) (c : Fin C) :
    (Host.scatterAdd d x idx upd (ix2 r c) : EReal)
      = x (ix2 r c) + ∑ p ∈ Finset.univ.filter (fun p : Fin K => g p = r), (upd (ix2 p c) : EReal) := by
  show (x (ix2 r c) : EReal) + ∑ j ∈ Finset.univ.filter (fun j => d.resultIdx? j idx = some (ix2 r c)), (upd j : EReal) = _
  congr 1
  refine Finset.sum_bij' (fun j _ => (j 0 : Fin K)) (fun p _ => ix2 p c) ?_ ?_ ?_ ?_ ?_
  · intro j hj
    have hj := (Finset.mem_filter.1 hj).2
    rw [eq_ix2 j] at hj
    exact Finset.mem_filter.2 ⟨Finset.mem_univ _, ((row_lands d huw hiw hsd hivd idx g hN hg _ _ _ _).1 hj).1⟩
  · intro p hp
    exact Finset.mem_filter.2 ⟨Finset.mem_univ _, (row_lands d huw hiw hsd hivd idx g hN hg _ _ _ _).2 ⟨(Finset.mem_filter.1 hp).2, rfl⟩⟩
  · intro j hj
    have hj := (Finset.mem_filter.1 hj).2
    rw [eq_ix2 j] at hj
    have := ((row_lands d huw hiw hsd hivd idx g hN hg _ _ _ _).1 hj).2
    subst this
    exact (eq_ix2 j).symm
  · intro p hp
    rfl
  · intro j hj
    have hj := (Finset.mem_filter.1 hj).2
    rw [eq_ix2 j] at hj
    have := ((row_lands d huw hiw hsd hivd idx g hN hg _ _ _ _).1 hj).2
    subst this
    exact congrArg upd (eq_ix2 j)

end Cert.Lands
-- ==== Proof.Counting.lean ====
module

public import Idealize.ShloMosaic.Lib.Routing.Count

@[expose] public section

noncomputable section

namespace Cert.Counting

open Idealize.ShloMosaic.Routing

/-! Counts over 65536 nodes in graphs of 64. -/

/-- Equivalent conditions are met equally often. -/
theorem same_count (P Q : Nat → Prop) [DecidablePred P] [DecidablePred Q] (h : ∀ i, P i ↔ Q i) (N : Nat) :
    Nat.count P N = Nat.count Q N := by
  induction N with
  | zero => rfl
  | succ N ih => rw [Nat.count_succ, Nat.count_succ, ih]; simp only [h]

/-- Of the numbers below `N`, `min m N` are below `m`. -/
theorem count_below (m N : Nat) : Nat.count (fun i => i < m) N = min m N := by
  induction N with
  | zero => simp
  | succ N ih => rw [Nat.count_succ, ih]; split <;> omega

/-- Of the numbers below `n`, those at place `t` of their group of 64. -/
theorem count_place (t : Nat) (ht : t < 64) (n : Nat) : Nat.count (fun i => i % 64 = t) n = (n + 63 - t) / 64 := by
  induction n with
  | zero => rw [Nat.count_zero]; omega
  | succ n ih => rw [Nat.count_succ, ih]; split <;> omega

/-- The number of nodes at most `b` of whose predecessors-or-self are at place `t`: it is where the `b`-th such node stands. -/
theorem count_before (t : Nat) (ht : t < 64) (b : Nat) (hb : b < 1024) :
    Nat.count (fun i => (i + 64 - t) / 64 ≤ b) 65536 = 64 * b + t := by
  rw [same_count _ (fun i => i < 64 * b + t) (fun i => by omega), count_below]
  omega

/-- Every graph has 64 nodes, counted through the first `n` nodes. -/
theorem count_graph_upto (b n : Nat) : Nat.count (fun i => i / 64 = b) n = min n (64 * (b + 1)) - min n (64 * b) := by
  induction n with
  | zero => simp
  | succ n ih => rw [Nat.count_succ, ih]; split <;> omega

theorem count_graph (b : Nat) (hb : b < 1024) : Nat.count (fun i => i / 64 = b) 65536 = 64 := by
  rw [count_graph_upto]; omega

/-- The sizes, shifted by one graph and added up, are the graphs' first nodes. -/
theorem sum_sizes (b : Nat) : ((List.range (b + 1)).map fun y => if y = 0 then 0 else 64).sum = 64 * b := by
  induction b with
  | zero => rfl
  | succ b ih => rw [List.range_succ, List.map_append, List.sum_append, ih]; simp; omega

/-- The number of graphs that start at or before node `p`. -/
theorem count_started (p : Nat) (hp : p < 65536) : Nat.count (fun b => 64 * b ≤ p) 1024 = p / 64 + 1 := by
  rw [same_count _ (fun b => b < p / 64 + 1) (fun b => by omega), count_below]
  omega

end Cert.Counting
-- ==== Proof.Words.lean ====
module

public import proofs.«01_k».proof.Proof.Gen.ReferenceIdeal.Read
public import proofs.«01_k».proof.Proof.Lands
public import proofs.«01_k».proof.Proof.Counting
public import Idealize.ShloMosaic.Lib.Routing.OpsOne
public import Idealize.ShloMosaic.Lib.ReduceAll
public import Idealize.ShloMosaic.Lib.Pointwise

@[expose] public section

noncomputable section

namespace Cert.ReferenceIdeal.Words

open Idealize.ShloMosaic hiding ix0 ix1 ix2 ix3 eq_ix1 eq_ix2
open Cert.ReferenceIdeal Cert.ReferenceIdeal.Gen Idealize.ShloMosaic.Routing Idealize.ShloMosaic.ValueIdx

/-! The reference's index arithmetic, stage by stage: each stage is a function of the array it reads. -/

/-- The scalar `v` at every place. -/
abbrev all {s : Shape} (hb : S_.BroadcastsInDim s (![] : Fin 0 → Fin s.rank)) (v : BitVec 32) : IVec s 32 :=
  broadcastInDim s ![] hb (constantI S_ 32 v)

theorem all_at {s : Shape} (hb : S_.BroadcastsInDim s (![] : Fin 0 → Fin s.rank)) (v : BitVec 32) (i : s.Idx) :
    all hb v i = v := bc0 hb _ i

/-- An index counted from the end when it is negative. -/
def wrap {s : Shape} (hb : S_.BroadcastsInDim s (![] : Fin 0 → Fin s.rank)) (n : BitVec 32) (x : IVec s 32) : IVec s 32 :=
  select (cmpi .slt x (all hb 0#32)) (addi x (all hb n)) x

/-- A small natural is left as it is. -/
theorem wrap_at {s : Shape} (hb : S_.BroadcastsInDim s (![] : Fin 0 → Fin s.rank)) (n : BitVec 32) (x : IVec s 32) (i : s.Idx)
    (a : Nat) (hx : x i = BitVec.ofNat 32 a) (ha : a < 2 ^ 31) : wrap hb n x i = BitVec.ofNat 32 a := by
  show Scalar.select (IntOp.cmpi .slt (x i) (all hb 0#32 i)) _ (x i) = _
  rw [all_at, wrap_of_lt, hx]
  rw [hx, BitVec.toNat_ofNat, Nat.mod_eq_of_lt (by omega)]
  exact ha

/-- Running totals of 65536 words. -/
def totals (x : IVec S65536 32) : IVec S65536 32 :=
  Host.reduceWindow IntOp.addi ![65536] ![1] ![65535] ![0] x (broadcastInDim S_ ![] bcast_S_S_ (constantI S_ 32 0#32))
    reduceWindows_S65536_S65536_w65536s1p65535_0 h_S_

theorem totals_at (x : IVec S65536 32) (f : Nat → Nat) (hx : ∀ i : Fin 65536, x (ix1 i) = BitVec.ofNat 32 (f i.val)) (p : Fin 65536) :
    totals x (ix1 p) = BitVec.ofNat 32 ((List.range (p.val + 1)).map f).sum :=
  cumsum1 rfl x f hx _ (bc0 _ _ _) _ _ p

/-- Running totals of 1024 words. -/
def totals' (x : IVec S1024 32) : IVec S1024 32 :=
  Host.reduceWindow IntOp.addi ![1024] ![1] ![1023] ![0] x (broadcastInDim S_ ![] bcast_S_S_ (constantI S_ 32 0#32))
    reduceWindows_S1024_S1024_w1024s1p1023_0 h_S_

theorem totals'_at (x : IVec S1024 32) (f : Nat → Nat) (hx : ∀ i : Fin 1024, x (ix1 i) = BitVec.ofNat 32 (f i.val)) (b : Fin 1024) :
    totals' x (ix1 b) = BitVec.ofNat 32 ((List.range (b.val + 1)).map f).sum :=
  cumsum1 rfl x f hx _ (bc0 _ _ _) _ _ b

/-- How many of 65536 words equal each number below 1024. -/
def tallies (x : IVec S65536 32) : IVec S1024 32 :=
  Host.scatter scatter_S1024_S65536x1_S65536_n_0_0_1 IntOp.addi (all bcast_S_S1024 0#32)
    (broadcastInDim S65536x1 ![0] bcast_S65536_S65536x1_0 (wrap bcast_S_S65536 1024#32 x)) (all bcast_S_S65536 1#32)

theorem tallies_at (x : IVec S65536 32) (g : Nat → Nat) (hx : ∀ i : Fin 65536, x (ix1 i) = BitVec.ofNat 32 (g i.val))
    (hg : ∀ i : Fin 65536, g i.val < 2 ^ 31) (b : Fin 1024) :
    tallies x (ix1 b) = BitVec.ofNat 32 (Nat.count (fun i => g i = b.val) 65536) :=
  Lands.tally _ rfl rfl rfl _ (fun i => all_at _ _ i) _ _ (fun i => all_at _ _ i) g
    (fun i => (bcCol _ _ i).trans (wrap_at _ _ _ _ _ (hx i) (hg i))) hg b

/-- How many of 1024 words equal each number below 65536. -/
def tallies' (x : IVec S1024 32) : IVec S65536 32 :=
  Host.scatter scatter_S65536_S1024x1_S1024_n_0_0_1 IntOp.addi (all bcast_S_S65536 0#32)
    (broadcastInDim S1024x1 ![0] bcast_S1024_S1024x1_0 (wrap bcast_S_S1024 65536#32 x)) (all bcast_S_S1024 1#32)

theorem tallies'_at (x : IVec S1024 32) (g : Nat → Nat) (hx : ∀ i : Fin 1024, x (ix1 i) = BitVec.ofNat 32 (g i.val))
    (hg : ∀ i : Fin 1024, g i.val < 2 ^ 31) (p : Fin 65536) :
    tallies' x (ix1 p) = BitVec.ofNat 32 (Nat.count (fun i => g i = p.val) 1024) :=
  Lands.tally _ rfl rfl rfl _ (fun i => all_at _ _ i) _ _ (fun i => all_at _ _ i) g
    (fun i => (bcCol _ _ i).trans (wrap_at _ _ _ _ _ (hx i) (hg i))) hg p

/-! Where the nodes of one type stand. -/

/-- The nodes of type `t`, marked. -/
def marks (x : IVec S65536 32) (t : BitVec 32) : IVec S65536 1 := cmpi .eq x (all bcast_S_S65536 t)

/-- The places of the first 1024 marked nodes (zero past the last one). -/
def places (m : IVec S65536 1) : IVec S1024 32 :=
  select
    (cmpi .sge (iotaInDim S1024 32 0)
      (broadcastInDim S1024 ![0] bcast_S1_S1024_0 (broadcastInDim S1 ![] bcast_S_S1
        (Host.reduce IntOp.addi (extui 32 m natLt_1_32) (constantI S_ 32 0#32) reducesTo_S65536_S_d0 h_S_))))
    (all bcast_S_S1024 0#32)
    (pyRem bcast_S_S1024 (pyDiv bcast_S_S1024 (totals' (tallies (totals (extui 32 m natLt_1_32)))) (constantI S_ 32 1#32))
      (constantI S_ 32 65536#32))

/-- The word under the types: 1 where the node is at place `t` of its graph, else 0. -/
theorem mark_word (x : IVec S65536 32) (hx : ∀ p : Fin 65536, x (ix1 p) = BitVec.ofNat 32 (min (p.val % 64) 2)) (t : Nat) (ht : t < 2)
    (p : Fin 65536) : extui 32 (marks x (BitVec.ofNat 32 t)) natLt_1_32 (ix1 p) = BitVec.ofNat 32 (if p.val % 64 = t then 1 else 0) := by
  show (IntOp.cmpi .eq (x (ix1 p)) (all bcast_S_S65536 (BitVec.ofNat 32 t) (ix1 p))).setWidth 32 = _
  rw [all_at, hx, WordCmp.cmpi_eq_ofNat (w := 32) (by omega) (by omega), setWidth_ofBool]
  congr 1
  exact if_congr (by omega) rfl rfl

/-- The `b`-th node of type `t` is node `64 b + t`. -/
theorem places_at (x : IVec S65536 32) (hx : ∀ p : Fin 65536, x (ix1 p) = BitVec.ofNat 32 (min (p.val % 64) 2)) (t : Nat) (ht : t < 2)
    (b : Fin 1024) : places (marks x (BitVec.ofNat 32 t)) (ix1 b) = BitVec.ofNat 32 (64 * b.val + t) := by
  have hb := b.isLt
  have hm := mark_word x hx t ht
  have h1 : ∀ p : Fin 65536, totals (extui 32 (marks x (BitVec.ofNat 32 t)) natLt_1_32) (ix1 p) = BitVec.ofNat 32 ((p.val + 64 - t) / 64) := by
    intro p
    rw [totals_at _ (fun i => if i % 64 = t then 1 else 0) hm, sum_map_ite (fun i => i % 64 = t), Counting.count_place t (by omega)]
  have h2 : ∀ c : Fin 1024, tallies (totals (extui 32 (marks x (BitVec.ofNat 32 t)) natLt_1_32)) (ix1 c)
      = BitVec.ofNat 32 (Nat.count (fun i => (i + 64 - t) / 64 = c.val) 65536) :=
    tallies_at _ (fun i => (i + 64 - t) / 64) h1 (fun i => by omega)
  have h3 : totals' (tallies (totals (extui 32 (marks x (BitVec.ofNat 32 t)) natLt_1_32))) (ix1 b) = BitVec.ofNat 32 (64 * b.val + t) := by
    rw [totals'_at _ (fun c => Nat.count (fun i => (i + 64 - t) / 64 = c) 65536) h2,
      sum_count_eq (fun i => (i + 64 - t) / 64), Counting.count_before t (by omega) _ hb]
  have h4 : Host.reduce IntOp.addi (extui 32 (marks x (BitVec.ofNat 32 t)) natLt_1_32) (constantI S_ 32 0#32) reducesTo_S65536_S_d0 h_S_ ix0
      = BitVec.ofNat 32 1024 := by
    rw [show Host.reduce IntOp.addi (extui 32 (marks x (BitVec.ofNat 32 t)) natLt_1_32) (constantI S_ 32 0#32) reducesTo_S65536_S_d0 h_S_ ix0 = _ from
      reduce_sum _ (fun i => if i % 64 = t then 1 else 0) hm _ _, sum_map_ite (fun i => i % 64 = t), Counting.count_place t (by omega)]
    congr 1
    omega
  show Scalar.select (IntOp.cmpi .sge (BitVec.ofNat 32 b.val)
    (broadcastInDim S1024 ![0] bcast_S1_S1024_0 (broadcastInDim S1 ![] bcast_S_S1
        (Host.reduce IntOp.addi (extui 32 (marks x (BitVec.ofNat 32 t)) natLt_1_32) (constantI S_ 32 0#32) reducesTo_S65536_S_d0 h_S_)) (ix1 b)))
    _ (pyRem bcast_S_S1024 _ _ (ix1 b)) = _
  rw [show broadcastInDim S1024 ![0] bcast_S1_S1024_0 (broadcastInDim S1 ![] bcast_S_S1
        (Host.reduce IntOp.addi (extui 32 (marks x (BitVec.ofNat 32 t)) natLt_1_32) (constantI S_ 32 0#32) reducesTo_S65536_S_d0 h_S_)) (ix1 b)
      = BitVec.ofNat 32 1024 from
    (broadcastInDim_apply _ _ _ _ (ix1 (0 : Fin 1)) (fun a => by
      match a with
      | ⟨0, _⟩ => rfl)).trans ((bc0 _ _ _).trans h4)]
  have hd := pyDiv_ap bcast_S_S1024 _ (constantI S_ 32 1#32) (ix1 b) (a := 64 * b.val + t) (b := 1) h3 rfl (by omega) (by decide) (by decide)
  rw [Nat.div_one] at hd
  have hr := pyRem_ap bcast_S_S1024 _ (constantI S_ 32 65536#32) (ix1 b) (a := 64 * b.val + t) (b := 65536) hd rfl (by omega) (by decide) (by decide)
  rw [Nat.mod_eq_of_lt (show 64 * b.val + t < 65536 by omega)] at hr
  have no : ∀ u v : BitVec 32, Scalar.select 0#1 u v = v := fun _ _ => rfl
  rw [hr, (WordCmp.cmpi_sge_ofNat_eq_zero_iff (w := 32) (a := b.val) (b := 1024) (by omega) (by decide)).2 (by omega), no]

/-! Which graph owns each node. -/

/-- The number of nodes of every graph. -/
def sizes (x : IVec S65536 32) : IVec S1024 32 := tallies (maxsi (all bcast_S_S65536 0#32) x)

/-- The sizes moved one graph on, with a zero in front. -/
def before (c : IVec S1024 32) : IVec S1024 32 :=
  Host.scatter scatter_S1024_S1_S__n_0_0_0 (fun _ b => b)
    (concatenate S1024 0 [⟨S1, extractStridedSlice S1 ![1023] c slices_S1024_S1_1023⟩,
      ⟨S1023, extractStridedSlice S1023 ![0] c slices_S1024_S1023_0⟩] concatenates_S1_S1023_S1024_d0)
    (all bcast_S_S1 0#32) (constantI S_ 32 0#32)

/-- The graph of every node, from the graphs' sizes. -/
def owners (c : IVec S1024 32) : IVec S65536 32 :=
  subi (totals (tallies' (totals' (before c)))) (all bcast_S_S65536 1#32)

theorem sizes_at (x : IVec S65536 32) (hx : ∀ p : Fin 65536, x (ix1 p) = BitVec.ofNat 32 (p.val / 64)) (b : Fin 1024) :
    sizes x (ix1 b) = BitVec.ofNat 32 64 := by
  unfold sizes
  rw [tallies_at _ (fun i => i / 64) (fun p => by
    show IntOp.maxsi (all bcast_S_S65536 0#32 (ix1 p)) (x (ix1 p)) = _
    rw [all_at, hx, maxsi_zero_left (by omega)]) (fun i => by omega), Counting.count_graph _ b.isLt]

/-- The array moved one on reads its predecessor. -/
theorem moved_at (c : IVec S1024 32) (b : Fin 1023) :
    concatenate S1024 0 [⟨S1, extractStridedSlice S1 ![1023] c slices_S1024_S1_1023⟩,
      ⟨S1023, extractStridedSlice S1023 ![0] c slices_S1024_S1023_0⟩] concatenates_S1_S1023_S1024_d0
      (ix1 (⟨b.val + 1, by omega⟩ : Fin 1024)) = c (ix1 (⟨b.val, by omega⟩ : Fin 1024)) := by
  pointwise
  exact dif_neg (by omega)

theorem before_at (c : IVec S1024 32) (hc : ∀ b : Fin 1024, c (ix1 b) = BitVec.ofNat 32 64) (b : Fin 1024) :
    before c (ix1 b) = BitVec.ofNat 32 (if b.val = 0 then 0 else 64) := by
  unfold before
  rw [show Host.scatter scatter_S1024_S1_S__n_0_0_0 (fun _ b => b) _ (all bcast_S_S1 0#32) (constantI S_ 32 0#32) (ix1 b) = _ from
    scatter_one _ rfl rfl _ _ _ (0 : Fin 1024) (by decide) (all_at _ _ _) b]
  by_cases h : b = 0
  · rw [if_pos h, if_pos (by rw [h]; rfl)]; rfl
  · have hv : b.val ≠ 0 := fun e => h (Fin.ext e)
    obtain ⟨b', hb'⟩ : ∃ b' : Fin 1023, b = ⟨b'.val + 1, by omega⟩ :=
      ⟨⟨b.val - 1, by omega⟩, Fin.ext (by show b.val = b.val - 1 + 1; omega)⟩
    rw [if_neg h, if_neg hv, hb', moved_at, hc]

theorem owners_at (c : IVec S1024 32) (hc : ∀ b : Fin 1024, c (ix1 b) = BitVec.ofNat 32 64) (p : Fin 65536) :
    owners c (ix1 p) = BitVec.ofNat 32 (p.val / 64) := by
  have hp := p.isLt
  have h1 : ∀ b : Fin 1024, totals' (before c) (ix1 b) = BitVec.ofNat 32 (64 * b.val) := fun b => by
    rw [totals'_at _ (fun y => if y = 0 then 0 else 64) (before_at c hc), Counting.sum_sizes]
  have h2 : ∀ q : Fin 65536, tallies' (totals' (before c)) (ix1 q) = BitVec.ofNat 32 (Nat.count (fun b => 64 * b = q.val) 1024) :=
    tallies'_at _ (fun b => 64 * b) h1 (fun b => by omega)
  show totals (tallies' (totals' (before c))) (ix1 p) - all bcast_S_S65536 1#32 (ix1 p) = _
  rw [all_at, totals_at _ (fun q => Nat.count (fun b => 64 * b = q) 1024) h2, sum_count_eq (fun b => 64 * b), Counting.count_started _ hp,
    show (1#32 : BitVec 32) = BitVec.ofNat 32 1 from rfl, ofNat32_sub (by omega)]
  congr 1

end Cert.ReferenceIdeal.Words
-- ==== Proof.Targets.lean ====
module

public import proofs.«01_k».proof.Proof.Words

@[expose] public section

noncomputable section

namespace Cert.ReferenceIdeal.Targets

open Idealize.ShloMosaic hiding ix0 ix1 ix2 ix3 eq_ix1 eq_ix2
open Cert.ReferenceIdeal Cert.ReferenceIdeal.Gen Cert.ReferenceIdeal.Words Cert.ReferenceIdeal.Read Idealize.ShloMosaic.Routing Idealize.ShloMosaic.ValueIdx

/-! Every node's target: the features of one chosen node of its graph. -/

/-- The features of 1024 chosen nodes. -/
def chosen (x : FVec Ideal S65536x256 .f32) (at' : IVec S1024 32) : FVec Ideal S1024x256 .f32 :=
  Host.gather gather_S65536x256_S1024x1_S1024x256_1_0_n_n_0_1_1256 x
    (broadcastInDim S1024x1 ![0] bcast_S1024_S1024x1_0 (wrap bcast_S_S1024 65536#32 at'))

theorem chosen_at (x : FVec Ideal S65536x256 .f32) (at' : IVec S1024 32) (b : Fin 1024) (k : Fin 256) (p : Fin 65536)
    (h : at' (ix1 b) = BitVec.ofNat 32 p.val) : chosen x at' (ix2 b k) = x (ix2 p k) :=
  gather_row _ rfl rfl rfl rfl rfl x _ b k p ((bcCol _ _ b).trans (wrap_at _ _ _ _ _ h (by omega))) (by decide)

/-- Each node's graph, as a column of row numbers. -/
def ownerCol (own : IVec S65536 32) : IVec S65536x1 32 :=
  broadcastInDim S65536x1 ![0] bcast_S65536_S65536x1_0 (wrap bcast_S_S65536 1024#32 own)

theorem ownerCol_at (own : IVec S65536 32) (h : ∀ p : Fin 65536, own (ix1 p) = BitVec.ofNat 32 (p.val / 64)) (p : Fin 65536) :
    ownerCol own (ix2 p (0 : Fin 1)) = BitVec.ofNat 32 (p.val / 64) :=
  (bcCol _ _ p).trans (wrap_at _ _ _ _ _ (h p) (by omega))

/-- The row numbers that are in range. -/
def inRange (c : IVec S65536x1 32) : IVec S65536x1 1 :=
  andi (cmpi .sge c (all bcast_S_S65536x1 0#32))
    (cmpi .sle c (broadcastInDim S65536x1 ![0, 1] bcast_S1x1_S65536x1_0_1
      (broadcastInDim S1x1 ![1] bcast_S1_S1x1_1 (constantI S1 32 1023#32))))

theorem inRange_at (own : IVec S65536 32) (h : ∀ p : Fin 65536, own (ix1 p) = BitVec.ofNat 32 (p.val / 64)) (i : S65536x1.Idx) :
    inRange (ownerCol own) i = 1#1 := by
  obtain ⟨p, rfl⟩ : ∃ p : Fin 65536, i = ix2 p (0 : Fin 1) := ⟨i 0, by
    rw [eq_ix2 i]
    congr 1
    exact Subsingleton.elim (α := Fin 1) _ _⟩
  have hp := p.isLt
  show IntOp.andi (IntOp.cmpi .sge (ownerCol own (ix2 p 0)) (all bcast_S_S65536x1 0#32 _))
    (IntOp.cmpi .sle (ownerCol own (ix2 p 0)) (1023#32)) = 1#1
  rw [all_at, ownerCol_at own h, (WordCmp.cmpi_sge_ofNat_eq_one_iff (w := 32) (a := p.val / 64) (b := 0) (by omega) (by decide)).2 (by omega),
    (WordCmp.cmpi_sle_ofNat_eq_one_iff (w := 32) (a := p.val / 64) (b := 1023) (by omega) (by decide)).2 (by omega)]
  rfl

/-- The nodes whose row number is in range. -/
def found (own : IVec S65536 32) : IVec S65536x256 1 :=
  broadcastInDim S65536x256 ![0] bcast_S65536_S65536x256_0
    (Host.reduce IntOp.andi (inRange (ownerCol own)) (constantI S_ 1 1#1) reducesTo_S65536x1_S65536_d1 h_S_)

theorem found_at (own : IVec S65536 32) (h : ∀ p : Fin 65536, own (ix1 p) = BitVec.ofNat 32 (p.val / 64)) (i : S65536x256.Idx) :
    found own i = 1#1 := by
  unfold found broadcastInDim
  exact Host.reduce_andi_one _ _ _ _ _ rfl (inRange_at own h)

/-- Where the condition holds, a select is its first branch. -/
theorem taken {α : Type} {s : Shape} (c : IVec s 1) (u v : s.Idx → α) (i : s.Idx) (h : c i = 1#1) : select c u v i = u i := by
  show Scalar.select (c i) (u i) (v i) = u i
  rw [h]
  rfl

/-- A row per graph, handed to every node of the graph. -/
def spread (tab : FVec Ideal S1024x256 .f32) (own : IVec S65536 32) : FVec Ideal S65536x256 .f32 :=
  select (found own) (Host.gather gather_S1024x256_S65536x1_S65536x256_1_0_n_n_0_1_1256 tab (ownerCol own))
    (broadcastInDim S65536x256 ![] bcast_S_S65536x256 (constant S_ .f32 0x7FC00000#32))

theorem spread_at (tab : FVec Ideal S1024x256 .f32) (own : IVec S65536 32)
    (h : ∀ p : Fin 65536, own (ix1 p) = BitVec.ofNat 32 (p.val / 64)) (p : Fin 65536) (k : Fin 256) :
    spread tab own (ix2 p k) = tab (ix2 (⟨p.val / 64, by omega⟩ : Fin 1024) k) := by
  refine (taken _ _ _ _ (found_at own h _)).trans ?_
  exact gather_row _ rfl rfl rfl rfl rfl tab _ p k ⟨p.val / 64, by omega⟩ (ownerCol_at own h p) (by decide)

/-- The target of node `p` for type `t`: the features of node `t` of `p`'s graph. -/
theorem target_at (x : FVec Ideal S65536x256 .f32) (g ty : IVec S65536 32)
    (hg : ∀ p : Fin 65536, g (ix1 p) = BitVec.ofNat 32 (p.val / 64))
    (hty : ∀ p : Fin 65536, ty (ix1 p) = BitVec.ofNat 32 (min (p.val % 64) 2)) (t : Nat) (ht : t < 2) (p : Fin 65536) (k : Fin 256) :
    spread (chosen x (places (marks ty (BitVec.ofNat 32 t)))) (owners (sizes g)) (ix2 p k)
      = x (ix2 (⟨64 * (p.val / 64) + t, by omega⟩ : Fin 65536) k) := by
  rw [spread_at _ _ (owners_at _ (sizes_at g hg))]
  exact chosen_at _ _ _ _ ⟨64 * (p.val / 64) + t, by omega⟩ (places_at ty hty t ht ⟨p.val / 64, by omega⟩)

/-- The first readout's target array is this at type 0. -/
theorem first_target (x : FVec Ideal S65536x256 .f32) (g ty : IVec S65536 32) :
    val_main_v77 (F := Ideal) x g ty = spread (chosen x (places (marks ty (BitVec.ofNat 32 0)))) (owners (sizes g)) := rfl

/-- The second readout's target array is this at type 1. -/
theorem second_target (x : FVec Ideal S65536x256 .f32) (g ty : IVec S65536 32) :
    val_main_v101 (F := Ideal) x g ty = spread (chosen x (places (marks ty (BitVec.ofNat 32 1)))) (owners (sizes g)) := rfl

end Cert.ReferenceIdeal.Targets
-- ==== Proof.Peaks.lean ====
module

public import proofs.«01_k».proof.Proof.Targets
public import proofs.«01_k».proof.Proof.Attention

@[expose] public section

noncomputable section

namespace Cert.ReferenceIdeal.Peaks

open Idealize.ShloMosaic hiding ix0 ix1 ix2 ix3 eq_ix1 eq_ix2
open Cert.ReferenceIdeal Cert.ReferenceIdeal.Gen Cert.ReferenceIdeal.Words Idealize.ShloMosaic.Routing Idealize.ShloMosaic.ValueIdx

/-! The reference's linear layers, its scores, and the greatest score of each graph. -/

/-- A linear layer. -/
def linear (x : FVec Ideal S65536x256 .f32) (W : FVec Ideal S256x256 .f32) (b : FVec Ideal S256 .f32) : FVec Ideal S65536x256 .f32 :=
  addf (Host.dotGeneral dot_S65536x256_S256x256_S65536x256_1_0_0_1_n_n none x W)
    (broadcastInDim S65536x256 ![0, 1] bcast_S1x256_S65536x256_0_1 (broadcastInDim S1x256 ![1] bcast_S256_S1x256_1 b))

theorem linear_at (x : FVec Ideal S65536x256 .f32) (W : FVec Ideal S256x256 .f32) (b : FVec Ideal S256 .f32) (p : Fin 65536) (l : Fin 256) :
    (linear x W b (ix2 p l) : EReal) = (∑ k : Fin 256, (x (ix2 p k) : EReal) * W (ix2 k l)) + b (ix1 l) := by
  pointwise [linear]
  rfl

/-- At a real row and real weights it is the real product, plus the bias, whatever that is. -/
theorem linear_bias (x : FVec Ideal S65536x256 .f32) (W : FVec Ideal S256x256 .f32) (b : FVec Ideal S256 .f32)
    (X : Fin 256 → ℝ) (w : Fin 256 → Fin 256 → ℝ) (p : Fin 65536) (l : Fin 256)
    (hx : ∀ k, x (ix2 p k) = ((X k : ℝ) : EReal)) (hw : ∀ k l, W (ix2 k l) = ((w k l : ℝ) : EReal)) :
    (linear x W b (ix2 p l) : EReal) = ((∑ k, X k * w k l : ℝ) : EReal) + b (ix1 l) := by
  rw [linear_at]
  simp only [hx, hw, ← EReal.coe_mul]
  rw [← Attention.coe_sum]

/-- At real numbers it is the real linear layer. -/
theorem linear_real (x : FVec Ideal S65536x256 .f32) (W : FVec Ideal S256x256 .f32) (b : FVec Ideal S256 .f32)
    (X : Fin 256 → ℝ) (w : Fin 256 → Fin 256 → ℝ) (β : Fin 256 → ℝ) (p : Fin 65536) (l : Fin 256)
    (hx : ∀ k, x (ix2 p k) = ((X k : ℝ) : EReal)) (hw : ∀ k l, W (ix2 k l) = ((w k l : ℝ) : EReal)) (hb : ∀ l, b (ix1 l) = ((β l : ℝ) : EReal)) :
    (linear x W b (ix2 p l) : EReal) = ((∑ k, X k * w k l + β l : ℝ) : EReal) := by
  rw [linear_bias x W b X w p l hx hw, hb, ← EReal.coe_add]

/-- A node's score: the product of its query and its key, summed over the features. -/
def scores (q k : FVec Ideal S65536x256 .f32) : FVec Ideal S65536x1 .f32 :=
  broadcastInDim S65536x1 ![0] bcast_S65536_S65536x1_0
    (Host.reduceAdd (mulf q k) (constant S_ .f32 0x00000000#32) reducesTo_S65536x256_S65536_d1 h_S_)

theorem scores_at (q k : FVec Ideal S65536x256 .f32) (p : Fin 65536) :
    (scores q k (ix2 p (0 : Fin 1)) : EReal) = ∑ l : Fin 256, (q (ix2 p l) : EReal) * k (ix2 p l) := by
  pointwise [scores]
  rfl

/-- The scores laid out by graph: minus infinity where the node belongs to another graph. -/
def masked (s : FVec Ideal S65536x1 .f32) (g : IVec S65536 32) : FVec Ideal S1024x65536 .f32 :=
  select
    (cmpi .eq (broadcastInDim S1024x65536 ![0, 1] bcast_S1x65536_S1024x65536_0_1 (broadcastInDim S1x65536 ![1] bcast_S65536_S1x65536_1 g))
      (broadcastInDim S1024x65536 ![0, 1] bcast_S1024x1_S1024x65536_0_1
        (broadcastInDim S1024x1 ![0] bcast_S1024_S1024x1_0 (iotaInDim S1024 32 0))))
    (broadcastInDim S1024x65536 ![0, 1] bcast_S1x65536_S1024x65536_0_1
      (broadcastInDim S1x65536 ![1] bcast_S65536_S1x65536_1 (shapeCast _ s shapeCasts_S65536x1_S65536)))
    (broadcastInDim S1024x65536 ![] bcast_S_S1024x65536 (constant S_ .f32 0xFF800000#32))

theorem masked_at (s : FVec Ideal S65536x1 .f32) (g : IVec S65536 32) (b : Fin 1024) (p : Fin 65536) :
    (masked s g (ix2 b p) : EReal)
      = Scalar.select (IntOp.cmpi .eq (g (ix1 p)) (BitVec.ofNat 32 b.val)) (s (ix2 p (0 : Fin 1)) : EReal) (Ideal.ofBits .f32 0xFF800000#32) := by
  pointwise [masked]
  rfl

/-- The greatest score of each graph. -/
def peaks (s : FVec Ideal S65536x1 .f32) (g : IVec S65536 32) : FVec Ideal S1024x1 .f32 :=
  broadcastInDim S1024x1 ![0] bcast_S1024_S1024x1_0
    (Host.reduce FloatOps.maximumf (masked s g) (constant S_ .f32 0xFF800000#32) reducesTo_S1024x65536_S1024_d1 h_S_)

theorem peaks_at (s : FVec Ideal S65536x1 .f32) (g : IVec S65536 32) (b : Fin 1024) :
    (peaks s g (ix2 b (0 : Fin 1)) : EReal)
      = Finset.univ.fold max (⊥ : EReal) (fun p : Fin 65536 => (masked s g (ix2 b p) : EReal)) := by
  have hbot : Ideal.ofBits .f32 0xFF800000#32 = ⊥ := by simp [Ideal.ofBits, Ideal.ieee]
  unfold peaks
  generalize masked s g = m
  rw [← hbot]
  pointwise
  rfl

/-- The greatest of finitely many numbers, each real or minus infinity and at least one real, is real. -/
theorem fold_max_some {n : ℕ} (f : Fin n → EReal) (i : Fin n) (hi : f i ≠ ⊥) (hf : ∀ j, f j ≠ ⊤) :
    ∃ r : ℝ, Finset.univ.fold max (⊥ : EReal) f = (r : EReal) := by
  have hb : Finset.univ.fold max (⊥ : EReal) f ≠ ⊥ := by
    intro h
    have := (Finset.le_fold_max (s := Finset.univ) (b := (⊥ : EReal)) (f := f) (f i)).mpr (Or.inr ⟨i, Finset.mem_univ i, le_rfl⟩)
    rw [h] at this
    exact hi (le_bot_iff.1 this)
  have ht : Finset.univ.fold max (⊥ : EReal) f ≠ ⊤ :=
    ne_of_lt ((Finset.fold_max_lt _).mpr ⟨bot_lt_top, fun j _ => lt_top_iff_ne_top.2 (hf j)⟩)
  exact ⟨_, (EReal.coe_toReal ht hb).symm⟩

/-- So the greatest score of every graph is a real number, where all the scores are. -/
theorem peaks_real (s : FVec Ideal S65536x1 .f32) (g : IVec S65536 32) (S : Fin 65536 → ℝ)
    (hs : ∀ p, s (ix2 p (0 : Fin 1)) = ((S p : ℝ) : EReal)) (hg : ∀ p : Fin 65536, g (ix1 p) = BitVec.ofNat 32 (p.val / 64)) (b : Fin 1024) :
    ∃ r : ℝ, (peaks s g (ix2 b (0 : Fin 1)) : EReal) = (r : EReal) := by
  have hbot : Ideal.ofBits .f32 0xFF800000#32 = ⊥ := by simp [Ideal.ofBits, Ideal.ieee]
  have hm : ∀ p : Fin 65536, (masked s g (ix2 b p) : EReal) = if p.val / 64 = b.val then ((S p : ℝ) : EReal) else ⊥ := by
    intro p
    rw [masked_at, hg, hs, hbot, WordCmp.cmpi_eq_ofNat (w := 32) (by omega) (by omega), WordCmp.select_decide]
  rw [peaks_at]
  refine fold_max_some _ (Attention.node b 0) ?_ ?_
  · rw [hm, if_pos (by show (b.val * 64 + 0) / 64 = b.val; omega)]
    exact EReal.coe_ne_bot _
  · intro p
    rw [hm]
    split
    · exact EReal.coe_ne_top _
    · exact bot_ne_top

end Cert.ReferenceIdeal.Peaks
-- ==== Proof.Readout.lean ====
module

public import proofs.«01_k».proof.Proof.Peaks

@[expose] public section

noncomputable section

namespace Cert.ReferenceIdeal.Readout

open Idealize.ShloMosaic hiding ix0 ix1 ix2 ix3 eq_ix1 eq_ix2
open Cert.ReferenceIdeal Cert.ReferenceIdeal.Gen Cert.ReferenceIdeal.Words Cert.ReferenceIdeal.Targets Cert.ReferenceIdeal.Peaks
open Cert.ReferenceIdeal.Read Cert.Attention Idealize.ShloMosaic.Routing Idealize.ShloMosaic.ValueIdx

/-! The reference's attention readout: weights over each graph's nodes, and the weighted sum of their values. -/

/-- The graph of node `p`. -/
abbrev graph (p : Fin 65536) : Fin 1024 := ⟨p.val / 64, by omega⟩

/-- A sum over the nodes of graph `b` is a sum over its 64 places. -/
theorem sum_nodes (b : Fin 1024) (f : Fin 65536 → EReal) :
    ∑ p ∈ Finset.univ.filter (fun p : Fin 65536 => graph p = b), f p = ∑ n : Fin 64, f (node b n) := by
  refine Finset.sum_bij' (fun p _ => (⟨p.val % 64, Nat.mod_lt _ (by decide)⟩ : Fin 64)) (fun n _ => node b n) ?_ ?_ ?_ ?_ ?_
  · intro p _; exact Finset.mem_univ _
  · intro n _
    exact Finset.mem_filter.2 ⟨Finset.mem_univ _, Fin.ext (by show (b.val * 64 + n.val) / 64 = b.val; omega)⟩
  · intro p hp
    have h : p.val / 64 = b.val := congrArg Fin.val (Finset.mem_filter.1 hp).2
    exact Fin.ext (by show b.val * 64 + p.val % 64 = p.val; omega)
  · intro n _
    exact Fin.ext (by show (b.val * 64 + n.val) % 64 = n.val; omega)
  · intro p hp
    have h : p.val / 64 = b.val := congrArg Fin.val (Finset.mem_filter.1 hp).2
    exact congrArg f (Fin.ext (by show p.val = b.val * 64 + p.val % 64; omega))

/-- A column per graph, read at every node's graph. -/
def ofGraph (c : FVec Ideal S1024x1 .f32) (g : IVec S65536 32) : FVec Ideal S65536x1 .f32 :=
  Host.gather gather_S1024x1_S65536x1_S65536x1_1_0_n_n_0_1_11 c (ownerCol g)

theorem ofGraph_at (c : FVec Ideal S1024x1 .f32) (g : IVec S65536 32) (hg : ∀ p : Fin 65536, g (ix1 p) = BitVec.ofNat 32 (p.val / 64))
    (p : Fin 65536) : ofGraph c g (ix2 p (0 : Fin 1)) = c (ix2 (graph p) (0 : Fin 1)) :=
  gather_row _ rfl rfl rfl rfl rfl c _ p 0 (graph p) (ownerCol_at g hg p) (by decide)

/-- The exponentials of the scores less their graph's greatest. -/
def expos (s : FVec Ideal S65536x1 .f32) (g : IVec S65536 32) : FVec Ideal S65536x1 .f32 :=
  Host.exp (subf s (ofGraph (peaks s g) g))

/-- Their sums over each graph. -/
def norms (e : FVec Ideal S65536x1 .f32) (g : IVec S65536 32) : FVec Ideal S1024x1 .f32 :=
  Host.scatterAdd scatter_S1024x1_S65536x1_S65536x1_1_0_0_1 (broadcastInDim S1024x1 ![] bcast_S_S1024x1 (constant S_ .f32 0x00000000#32))
    (broadcastInDim S65536x1 ![0] bcast_S65536_S65536x1_0 g) e

theorem norms_at (e : FVec Ideal S65536x1 .f32) (g : IVec S65536 32) (hg : ∀ p : Fin 65536, g (ix1 p) = BitVec.ofNat 32 (p.val / 64))
    (b : Fin 1024) : (norms e g (ix2 b (0 : Fin 1)) : EReal) = ∑ n : Fin 64, (e (ix2 (node b n) (0 : Fin 1)) : EReal) := by
  refine (Lands.rows_added _ rfl rfl rfl rfl _ graph (by decide) (fun p => (bcCol _ _ p).trans (hg p)) _ _ b 0).trans ?_
  rw [bc0, sum_nodes b (fun p => e (ix2 p (0 : Fin 1)))]
  show Ideal.ofBits .f32 0x00000000#32 + _ = _
  rw [Ideal.ofBits_zero_f32, zero_add]

/-- The weights. -/
def weights (s : FVec Ideal S65536x1 .f32) (g : IVec S65536 32) : FVec Ideal S65536x1 .f32 :=
  Host.divf (expos s g) (ofGraph (norms (expos s g) g) g)

theorem quotient_at (a b : FVec Ideal S65536x1 .f32) (i : S65536x1.Idx) :
    (Host.divf a b i : EReal) = Ideal.div (a i) (b i) := rfl

theorem expos_at (s : FVec Ideal S65536x1 .f32) (g : IVec S65536 32) (S : Fin 65536 → ℝ)
    (hs : ∀ p, s (ix2 p (0 : Fin 1)) = ((S p : ℝ) : EReal)) (hg : ∀ p : Fin 65536, g (ix1 p) = BitVec.ofNat 32 (p.val / 64))
    (c : Fin 1024 → ℝ) (hc : ∀ b, (peaks s g (ix2 b (0 : Fin 1)) : EReal) = (c b : EReal)) (b : Fin 1024) (n : Fin 64) :
    (expos s g (ix2 (node b n) (0 : Fin 1)) : EReal) = Ideal.exp ((S (node b n) : EReal) - (c b : EReal)) := by
  have e : graph (node b n) = b := Fin.ext (by show (b.val * 64 + n.val) / 64 = b.val; omega)
  show Ideal.exp ((s (ix2 (node b n) (0 : Fin 1)) : EReal) - ofGraph (peaks s g) g (ix2 (node b n) (0 : Fin 1))) = _
  rw [hs, ofGraph_at _ _ hg, e, hc]

/-- At real scores they are the real softmax weights of the graph. -/
theorem weights_at (s : FVec Ideal S65536x1 .f32) (g : IVec S65536 32) (S : Fin 65536 → ℝ)
    (hs : ∀ p, s (ix2 p (0 : Fin 1)) = ((S p : ℝ) : EReal)) (hg : ∀ p : Fin 65536, g (ix1 p) = BitVec.ofNat 32 (p.val / 64))
    (b : Fin 1024) (n : Fin 64) :
    (weights s g (ix2 (node b n) (0 : Fin 1)) : EReal) = ((wt (fun n => S (node b n)) n : ℝ) : EReal) := by
  choose c hc using peaks_real s g S hs hg
  have e : graph (node b n) = b := Fin.ext (by show (b.val * 64 + n.val) / 64 = b.val; omega)
  have hd : (ofGraph (norms (expos s g) g) g (ix2 (node b n) (0 : Fin 1)) : EReal)
      = ∑ m : Fin 64, Ideal.exp ((S (node b m) : EReal) - (c b : EReal)) :=
    (ofGraph_at _ _ hg _).trans ((congrArg (fun a => norms (expos s g) g (ix2 a (0 : Fin 1))) e).trans
      ((norms_at _ _ hg b).trans (Finset.sum_congr rfl fun m _ => expos_at s g S hs hg c hc b m)))
  unfold weights
  refine (quotient_at _ _ _).trans ?_
  exact (congrArg₂ Ideal.div (expos_at s g S hs hg c hc b n) hd).trans (softmax_real (fun n => S (node b n)) (c b) n)

/-- The weighted sum of the values over each graph. -/
def pooled (v : FVec Ideal S65536x256 .f32) (w : FVec Ideal S65536x1 .f32) (g : IVec S65536 32) : FVec Ideal S1024x256 .f32 :=
  Host.scatterAdd scatter_S1024x256_S65536x1_S65536x256_1_0_0_1
    (broadcastInDim S1024x256 ![] bcast_S_S1024x256 (constant S_ .f32 0x00000000#32))
    (broadcastInDim S65536x1 ![0] bcast_S65536_S65536x1_0 g)
    (mulf v (broadcastInDim S65536x256 ![0, 1] bcast_S65536x1_S65536x256_0_1 w))

theorem column_at (w : FVec Ideal S65536x1 .f32) (p : Fin 65536) (h : Fin 256) :
    broadcastInDim S65536x256 ![0, 1] bcast_S65536x1_S65536x256_0_1 w (ix2 p h) = w (ix2 p (0 : Fin 1)) := by
  pointwise
  rfl

theorem pooled_at (v : FVec Ideal S65536x256 .f32) (w : FVec Ideal S65536x1 .f32) (g : IVec S65536 32)
    (hg : ∀ p : Fin 65536, g (ix1 p) = BitVec.ofNat 32 (p.val / 64)) (b : Fin 1024) (h : Fin 256) :
    (pooled v w g (ix2 b h) : EReal) = ∑ n : Fin 64, (v (ix2 (node b n) h) : EReal) * w (ix2 (node b n) (0 : Fin 1)) := by
  refine (Lands.rows_added _ rfl rfl rfl rfl _ graph (by decide) (fun p => (bcCol _ _ p).trans (hg p)) _ _ b h).trans ?_
  rw [bc0, sum_nodes b (fun p => mulf v (broadcastInDim S65536x256 ![0, 1] bcast_S65536x1_S65536x256_0_1 w) (ix2 p h))]
  show Ideal.ofBits .f32 0x00000000#32 + ∑ n : Fin 64, (v (ix2 (node b n) h) : EReal)
    * broadcastInDim S65536x256 ![0, 1] bcast_S65536x1_S65536x256_0_1 w (ix2 (node b n) h) = _
  rw [Ideal.ofBits_zero_f32, zero_add]
  exact Finset.sum_congr rfl fun n _ => congrArg (fun a : EReal => (v (ix2 (node b n) h) : EReal) * a) (column_at w (node b n) h)

/-- One readout: queries from the targets `t`, keys and values from the features `x`, over the graphs `g`. -/
def attend (t x : FVec Ideal S65536x256 .f32) (g : IVec S65536 32) (qW : FVec Ideal S256x256 .f32) (qb : FVec Ideal S256 .f32)
    (kW : FVec Ideal S256x256 .f32) (kb : FVec Ideal S256 .f32) (vW : FVec Ideal S256x256 .f32) (vb : FVec Ideal S256 .f32) :
    FVec Ideal S1024x256 .f32 :=
  pooled (linear x vW vb) (weights (scores (linear t qW qb) (linear x kW kb)) g) g

/-- At real numbers it is the real readout of each graph, plus the value bias, whatever that is. -/
theorem attend_real (t x : FVec Ideal S65536x256 .f32) (g : IVec S65536 32) (qW : FVec Ideal S256x256 .f32) (qb : FVec Ideal S256 .f32)
    (kW : FVec Ideal S256x256 .f32) (kb : FVec Ideal S256 .f32) (vW : FVec Ideal S256x256 .f32) (vb : FVec Ideal S256 .f32)
    (T : Fin 1024 → Fin 256 → ℝ) (X : Fin 65536 → Fin 256 → ℝ) (QW KW VW : Fin 256 → Fin 256 → ℝ) (QB KB : Fin 256 → ℝ)
    (ht : ∀ p k, t (ix2 p k) = ((T (graph p) k : ℝ) : EReal)) (hx : ∀ p k, x (ix2 p k) = ((X p k : ℝ) : EReal))
    (hg : ∀ p : Fin 65536, g (ix1 p) = BitVec.ofNat 32 (p.val / 64))
    (hqW : ∀ k l, qW (ix2 k l) = ((QW k l : ℝ) : EReal)) (hqb : ∀ l, qb (ix1 l) = ((QB l : ℝ) : EReal))
    (hkW : ∀ k l, kW (ix2 k l) = ((KW k l : ℝ) : EReal)) (hkb : ∀ l, kb (ix1 l) = ((KB l : ℝ) : EReal))
    (hvW : ∀ k l, vW (ix2 k l) = ((VW k l : ℝ) : EReal)) (b : Fin 1024) (h : Fin 256) :
    (attend t x g qW qb kW kb vW vb (ix2 b h) : EReal)
      = ((readout (T b) (fun n => X (node b n)) QW KW VW QB KB h : ℝ) : EReal) + (vb (ix1 h) : EReal) := by
  have hs : ∀ p, scores (linear t qW qb) (linear x kW kb) (ix2 p (0 : Fin 1))
      = ((∑ l, (∑ j, T (graph p) j * QW j l + QB l) * (∑ k, X p k * KW k l + KB l) : ℝ) : EReal) := by
    intro p
    rw [Peaks.scores_at, coe_sum]
    refine Finset.sum_congr rfl fun l _ => ?_
    rw [linear_real t qW qb (T (graph p)) QW QB p l (ht p) hqW hqb, linear_real x kW kb (X p) KW KB p l (hx p) hkW hkb, ← EReal.coe_mul]
  have eb : ∀ n, graph (node b n) = b := fun n => Fin.ext (by show (b.val * 64 + n.val) / 64 = b.val; omega)
  unfold attend
  rw [pooled_at _ _ _ hg]
  unfold readout
  refine Eq.trans (Finset.sum_congr rfl fun n _ => ?_) (weighted_add _ _ _)
  rw [linear_bias x vW vb (X (node b n)) VW (node b n) h (hx _) hvW, weights_at _ _ _ hs hg]
  simp only [eb]
  rfl

/-- The first result is the first readout. -/
theorem first (x0 : FVec Ideal S65536x256 .f32) (x1 x2 : IVec S65536 32) (x3 : FVec Ideal S256x256 .f32) (x4 : FVec Ideal S256 .f32)
    (x5 : FVec Ideal S256x256 .f32) (x6 : FVec Ideal S256 .f32) (x7 : FVec Ideal S256x256 .f32) (x8 : FVec Ideal S256 .f32) :
    val_main_v164 (F := Ideal) x0 x1 x2 x3 x4 x5 x6 x7 x8 = attend (val_main_v77 (F := Ideal) x0 x1 x2) x0 x1 x3 x4 x5 x6 x7 x8 := rfl

/-- The second result is the second readout. -/
theorem second (x0 : FVec Ideal S65536x256 .f32) (x1 x2 : IVec S65536 32) (x9 : FVec Ideal S256x256 .f32) (x10 : FVec Ideal S256 .f32)
    (x11 : FVec Ideal S256x256 .f32) (x12 : FVec Ideal S256 .f32) (x13 : FVec Ideal S256x256 .f32) (x14 : FVec Ideal S256 .f32) :
    val_main_v203 (F := Ideal) x0 x1 x2 x9 x10 x11 x12 x13 x14 = attend (val_main_v101 (F := Ideal) x0 x1 x2) x0 x1 x9 x10 x11 x12 x13 x14 := rfl

end Cert.ReferenceIdeal.Readout
-- ==== Proof.Range.lean ====
/-
  What the precondition says of the arguments: node `p` belongs to graph `p / 64`, its type is `min (p % 64) 2`, and every
  float other than the value biases is a real number.
-/
module

public import proofs.«01_k».proof.Pre_in_range
public import Idealize.ShloMosaic.Lib.ReduceAll
public import Idealize.ShloMosaic.Lib.Routing.Words
public import Idealize.ShloMosaic.PureOps.Ideal

@[expose] public section

noncomputable section

namespace Cert.Pre_in_range.Decode

open Cert.Pre_in_range Cert.Pre_in_range.Facts Idealize.ShloMosaic Idealize.ShloMosaic.Routing Idealize.ShloMosaic.ValueIdx

variable [Facts]

instance : Subsingleton S_.Idx := ⟨fun a b => funext fun d => d.elim0⟩

/-- The test that every entry of an array is strictly between the infinities. -/
abbrev between {s : Shape} (hb : S_.BroadcastsInDim s (![] : Fin 0 → Fin s.rank)) (x : FVec Ideal s .f32) : IVec s 1 :=
  andi (cmpf .ogt x (broadcastInDim s ![] hb (constant S_ .f32 0xFF800000#32)))
    (cmpf .olt x (broadcastInDim s ![] hb (constant S_ .f32 0x7F800000#32)))

/-- Its reduction over the whole array. -/
abbrev allBetween {s : Shape} (hb : S_.BroadcastsInDim s (![] : Fin 0 → Fin s.rank)) {axes : List (Fin s.rank)}
    (h : s.ReducesTo axes S_) (x : FVec Ideal s .f32) : IVec S_ 1 :=
  Host.reduce IntOp.andi (between hb x) (constantI S_ 1 1#1) h h_S_

/-- An entry that passes is a real number. -/
theorem real_of_between {s : Shape} (hb : S_.BroadcastsInDim s (![] : Fin 0 → Fin s.rank)) (x : FVec Ideal s .f32)
    (i : s.Idx) (h : between hb x i = 1#1) : ∃ r : ℝ, x i = (r : EReal) := by
  have h1 : Ideal.cmp .ogt (x i) (Ideal.ofBits .f32 0xFF800000#32) = 1#1 := (IntOp.andi_eq_one.1 h).1
  have h2 : Ideal.cmp .olt (x i) (Ideal.ofBits .f32 0x7F800000#32) = 1#1 := (IntOp.andi_eq_one.1 h).2
  have hn : Ideal.ofBits .f32 0xFF800000#32 = ⊥ := by simp [Ideal.ofBits, Ideal.ieee]
  have hp : Ideal.ofBits .f32 0x7F800000#32 = ⊤ := by simp [Ideal.ofBits, Ideal.ieee]
  rw [hn] at h1
  rw [hp] at h2
  have hbot : x i ≠ ⊥ := by
    intro e; rw [e] at h1; simp [Ideal.cmp] at h1
  have htop : x i ≠ ⊤ := by
    intro e; rw [e] at h2; simp [Ideal.cmp] at h2
  exact ⟨_, (EReal.coe_toReal htop hbot).symm⟩

/-- So every entry of an array that passes is. -/
theorem real_of_all {s : Shape} (hb : S_.BroadcastsInDim s (![] : Fin 0 → Fin s.rank)) {axes : List (Fin s.rank)}
    (h : s.ReducesTo axes S_) (x : FVec Ideal s .f32) (e : allBetween hb h x ix0 = 1#1) (i : s.Idx) :
    ∃ r : ℝ, x i = (r : EReal) :=
  real_of_between hb x i (Host.reduce_andi_all _ _ h h_S_ ix0 e i)

section Words

/-- Node `p`'s graph. -/
theorem graph_word (p : Fin 65536) :
    fn_floor_divide (F := Ideal) (iotaInDim S65536 32 0) (constantI S_ 32 64#32) (ix1 p) = BitVec.ofNat 32 (p.val / 64) :=
  pyDiv_ap bcast_S_S65536 (iotaInDim S65536 32 0) (constantI S_ 32 64#32) (ix1 p) (a := p.val) (b := 64) rfl rfl
    (by omega) (by decide) (by decide)

/-- Node `p`'s place in its graph. -/
theorem place_word (p : Fin 65536) :
    fn_remainder (F := Ideal) (iotaInDim S65536 32 0) (constantI S_ 32 64#32) (ix1 p) = BitVec.ofNat 32 (p.val % 64) :=
  pyRem_ap bcast_S_S65536 (iotaInDim S65536 32 0) (constantI S_ 32 64#32) (ix1 p) (a := p.val) (b := 64) rfl rfl
    (by omega) (by decide) (by decide)

/-- The least of a place and 2. -/
theorem min_two : ∀ q : Fin 64, IntOp.minsi (BitVec.ofNat 32 q.val) 2#32 = BitVec.ofNat 32 (min q.val 2) := by
  decide +kernel

/-- A comparison for equality that came out true. -/
theorem eq_of_cmpi {a b : BitVec 32} (h : IntOp.cmpi .eq a b = 1#1) : a = b := by
  by_contra hne
  have hb : (a == b) = false := beq_eq_false_iff_ne.mpr hne
  have h' : BitVec.ofBool (a == b) = 1#1 := h
  rw [hb] at h'
  exact absurd h' (by decide)

end Words

section Args

variable (a0 : FVec Ideal S65536x256 .f32) (a1 a2 : IVec S65536 32) (a3 : FVec Ideal S256x256 .f32) (a4 : FVec Ideal S256 .f32)
    (a5 : FVec Ideal S256x256 .f32) (a6 : FVec Ideal S256 .f32) (a7 : FVec Ideal S256x256 .f32) (a8 : FVec Ideal S256 .f32)
    (a9 : FVec Ideal S256x256 .f32) (a10 : FVec Ideal S256 .f32) (a11 : FVec Ideal S256x256 .f32) (a12 : FVec Ideal S256 .f32)
    (a13 : FVec Ideal S256x256 .f32) (a14 : FVec Ideal S256 .f32)

/-- The test on the node's graphs. -/
abbrev graphOk : IVec S_ 1 :=
  Host.reduce IntOp.andi (cmpi .eq a1 (fn_floor_divide (F := Ideal) (iotaInDim S65536 32 0) (constantI S_ 32 64#32)))
    (constantI S_ 1 1#1) reducesTo_S65536_S_d0 h_S_

/-- The test on the node's types. -/
abbrev typeOk : IVec S_ 1 :=
  Host.reduce IntOp.andi (cmpi .eq a2 (minsi (fn_remainder (F := Ideal) (iotaInDim S65536 32 0) (constantI S_ 32 64#32))
    (broadcastInDim S65536 ![] bcast_S_S65536 (constantI S_ 32 2#32)))) (constantI S_ 1 1#1) reducesTo_S65536_S_d0 h_S_

/-- The test on a weight matrix. -/
abbrev mat (x : FVec Ideal S256x256 .f32) : IVec S_ 1 := allBetween bcast_S_S256x256 reducesTo_S256x256_S_d0_1 x

/-- The test on a bias. -/
abbrev vec (x : FVec Ideal S256 .f32) : IVec S_ 1 := allBetween bcast_S_S256 reducesTo_S256_S_d0 x

/-- The precondition is the tests, all of them. -/
theorem fn_tests : fn (F := Ideal) a0 a1 a2 a3 a4 a5 a6 a7 a8 a9 a10 a11 a12 a13 a14
    = andi (andi (andi (andi (andi (andi (andi (andi (andi (andi (andi (andi (graphOk a1) (typeOk a2))
        (allBetween bcast_S_S65536x256 reducesTo_S65536x256_S_d0_1 a0)) (mat a3)) (vec a4)) (mat a5)) (vec a6)) (mat a7))
        (mat a9)) (vec a10)) (mat a11)) (vec a12)) (mat a13) := rfl

/-- What the precondition gives. -/
structure Holds : Prop where
  graph : ∀ p : Fin 65536, a1 (ix1 p) = BitVec.ofNat 32 (p.val / 64)
  type : ∀ p : Fin 65536, a2 (ix1 p) = BitVec.ofNat 32 (min (p.val % 64) 2)
  r0 : ∀ i, ∃ r : ℝ, a0 i = (r : EReal)
  r3 : ∀ i, ∃ r : ℝ, a3 i = (r : EReal)
  r4 : ∀ i, ∃ r : ℝ, a4 i = (r : EReal)
  r5 : ∀ i, ∃ r : ℝ, a5 i = (r : EReal)
  r6 : ∀ i, ∃ r : ℝ, a6 i = (r : EReal)
  r7 : ∀ i, ∃ r : ℝ, a7 i = (r : EReal)
  r9 : ∀ i, ∃ r : ℝ, a9 i = (r : EReal)
  r10 : ∀ i, ∃ r : ℝ, a10 i = (r : EReal)
  r11 : ∀ i, ∃ r : ℝ, a11 i = (r : EReal)
  r12 : ∀ i, ∃ r : ℝ, a12 i = (r : EReal)
  r13 : ∀ i, ∃ r : ℝ, a13 i = (r : EReal)

/-- The precondition read back. -/
theorem holds (h : fn (F := Ideal) a0 a1 a2 a3 a4 a5 a6 a7 a8 a9 a10 a11 a12 a13 a14 = fun _ => 1#1) :
    Holds a0 a1 a2 a3 a4 a5 a6 a7 a9 a10 a11 a12 a13 := by
  have h0 := congrFun h ix0
  rw [fn_tests] at h0
  obtain ⟨h0, t13⟩ := IntOp.andi_eq_one.1 h0
  obtain ⟨h0, t12⟩ := IntOp.andi_eq_one.1 h0
  obtain ⟨h0, t11⟩ := IntOp.andi_eq_one.1 h0
  obtain ⟨h0, t10⟩ := IntOp.andi_eq_one.1 h0
  obtain ⟨h0, t9⟩ := IntOp.andi_eq_one.1 h0
  obtain ⟨h0, t7⟩ := IntOp.andi_eq_one.1 h0
  obtain ⟨h0, t6⟩ := IntOp.andi_eq_one.1 h0
  obtain ⟨h0, t5⟩ := IntOp.andi_eq_one.1 h0
  obtain ⟨h0, t4⟩ := IntOp.andi_eq_one.1 h0
  obtain ⟨h0, t3⟩ := IntOp.andi_eq_one.1 h0
  obtain ⟨h0, t0⟩ := IntOp.andi_eq_one.1 h0
  obtain ⟨t1, t2⟩ := IntOp.andi_eq_one.1 h0
  exact {
    graph := fun p => (eq_of_cmpi (Host.reduce_andi_all _ _ _ h_S_ ix0 t1 (ix1 p))).trans (graph_word p)
    type := fun p => by
      refine (eq_of_cmpi (Host.reduce_andi_all _ _ _ h_S_ ix0 t2 (ix1 p))).trans ?_
      show IntOp.minsi (fn_remainder (F := Ideal) (iotaInDim S65536 32 0) (constantI S_ 32 64#32) (ix1 p)) 2#32 = _
      rw [place_word]
      exact min_two ⟨p.val % 64, Nat.mod_lt _ (by decide)⟩
    r0 := real_of_all _ _ a0 t0
    r3 := real_of_all _ _ a3 t3
    r4 := real_of_all _ _ a4 t4
    r5 := real_of_all _ _ a5 t5
    r6 := real_of_all _ _ a6 t6
    r7 := real_of_all _ _ a7 t7
    r9 := real_of_all _ _ a9 t9
    r10 := real_of_all _ _ a10 t10
    r11 := real_of_all _ _ a11 t11
    r12 := real_of_all _ _ a12 t12
    r13 := real_of_all _ _ a13 t13 }

end Args

end Cert.Pre_in_range.Decode

end
-- ==== Proof.Agree.lean ====
module

public import proofs.«01_k».proof.Proof.Result
public import proofs.«01_k».proof.Proof.Readout
public import proofs.«01_k».proof.Proof.Range

@[expose] public section

noncomputable section

namespace Cert.Agree

open Idealize.ShloMosaic hiding ix0 ix1 ix2 ix3 eq_ix1 eq_ix2
open Cert.Attention Cert.ReferenceIdeal.Read Cert.ReferenceIdeal.Readout Cert.ReferenceIdeal.Targets
open Idealize.ShloMosaic.ValueIdx Idealize.ShloMosaic.TcCoe Idealize.SL.Sem
open Cert.KernelIdeal (nD τ sig main_arg0 main_arg1 main_arg2 main_arg3 main_arg4 main_arg5 main_arg6 main_arg7 main_arg8 main_arg9
  main_arg10 main_arg11 main_arg12 main_arg13 main_arg14)

/-! Under the precondition the kernel's two results are the reference's. -/

variable [Cert.Pre_in_range.Facts] (m : (ℓ : Loc nD τ sig) → Buf (Elt Ideal) ℓ) (c : Dev nD)

/-- What the precondition says of the arguments in memory. -/
abbrev Ok : Prop :=
  Cert.Pre_in_range.Decode.Holds (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7))
    (m (c.tc.loc main_arg9)) (m (c.tc.loc main_arg10)) (m (c.tc.loc main_arg11)) (m (c.tc.loc main_arg12)) (m (c.tc.loc main_arg13))

/-- The first result. -/
theorem first_eq (h : Ok m c) :
    Cert.KernelIdeal.Value.G11 m c = val_main_v164 (F := Ideal) (m (c.tc.loc main_arg0)) (m (c.tc.loc main_arg1)) (m (c.tc.loc main_arg2))
      (m (c.tc.loc main_arg3)) (m (c.tc.loc main_arg4)) (m (c.tc.loc main_arg5)) (m (c.tc.loc main_arg6)) (m (c.tc.loc main_arg7))
      (m (c.tc.loc main_arg8)) := by
  choose X hX using h.r0
  choose QW hQW using h.r3
  choose QB hQB using h.r4
  choose KW hKW using h.r5
  choose KB hKB using h.r6
  choose VW hVW using h.r7
  rw [first, first_target]
  funext j
  obtain ⟨b, l, rfl⟩ : ∃ (b : Fin 1024) (l : Fin 256), j = ix2 b l := ⟨j 0, j 1, eq_ix2 j⟩
  refine (Cert.KernelIdeal.Result.G11_real m c (fun p k => X (ix2 p k)) (fun p k => hX _) (fun k l => QW (ix2 k l)) (fun k l => KW (ix2 k l))
    (fun k l => VW (ix2 k l)) (fun l => QB (ix1 l)) (fun _ _ => hQW _) (fun _ => hQB _) (fun _ _ => hKW _)
    (fun _ _ => hVW _) b l).trans ?_
  refine (congrArg (fun r : ℝ => (r : EReal) + (m (c.tc.loc main_arg8) (ix1 l) : EReal)) (kreadout_eq _ _ _ _ _ _ (fun l => KB (ix1 l)) l)).trans ?_
  refine (attend_real _ _ _ _ _ _ _ _ _ (fun b k => X (ix2 (node b 0) k)) (fun p k => X (ix2 p k)) _ _ _ _ _ (fun p k => ?_) (fun p k => hX _)
    h.graph (fun k l => hQW _) (fun l => hQB _) (fun k l => hKW _) (fun l => hKB _) (fun k l => hVW _) b l).symm
  refine (target_at _ _ _ h.graph h.type 0 (by decide) p k).trans ((hX _).trans ?_)
  have e : (⟨64 * (p.val / 64) + 0, by omega⟩ : Fin 65536) = node (graph p) 0 :=
    Fin.ext (by show 64 * (p.val / 64) + 0 = p.val / 64 * 64 + 0; omega)
  rw [e]

/-- The second result. -/
theorem second_eq (h : Ok m c) :
    Cert.KernelIdeal.Value.G12 m c = val_main_v203 (F := Ideal) (m (c.tc.loc main_arg0)) (m (c.tc.loc main_arg1)) (m (c.tc.loc main_arg2))
      (m (c.tc.loc main_arg9)) (m (c.tc.loc main_arg10)) (m (c.tc.loc main_arg11)) (m (c.tc.loc main_arg12)) (m (c.tc.loc main_arg13))
      (m (c.tc.loc main_arg14)) := by
  choose X hX using h.r0
  choose QW hQW using h.r9
  choose QB hQB using h.r10
  choose KW hKW using h.r11
  choose KB hKB using h.r12
  choose VW hVW using h.r13
  rw [second, second_target]
  funext j
  obtain ⟨b, l, rfl⟩ : ∃ (b : Fin 1024) (l : Fin 256), j = ix2 b l := ⟨j 0, j 1, eq_ix2 j⟩
  refine (Cert.KernelIdeal.Result.G12_real m c (fun p k => X (ix2 p k)) (fun p k => hX _) (fun k l => QW (ix2 k l)) (fun k l => KW (ix2 k l))
    (fun k l => VW (ix2 k l)) (fun l => QB (ix1 l)) (fun _ _ => hQW _) (fun _ => hQB _) (fun _ _ => hKW _)
    (fun _ _ => hVW _) b l).trans ?_
  refine (congrArg (fun r : ℝ => (r : EReal) + (m (c.tc.loc main_arg14) (ix1 l) : EReal)) (kreadout_eq _ _ _ _ _ _ (fun l => KB (ix1 l)) l)).trans ?_
  refine (attend_real _ _ _ _ _ _ _ _ _ (fun b k => X (ix2 (node b 1) k)) (fun p k => X (ix2 p k)) _ _ _ _ _ (fun p k => ?_) (fun p k => hX _)
    h.graph (fun k l => hQW _) (fun l => hQB _) (fun k l => hKW _) (fun l => hKB _) (fun k l => hVW _) b l).symm
  refine (target_at _ _ _ h.graph h.type 1 (by decide) p k).trans ((hX _).trans ?_)
  have e : (⟨64 * (p.val / 64) + 1, by omega⟩ : Fin 65536) = node (graph p) 1 :=
    Fin.ext (by show 64 * (p.val / 64) + 1 = p.val / 64 * 64 + 1; omega)
  rw [e]

end Cert.Agree
-- ==== Proof.Claims.lean ====
module

public import proofs.«01_k».proof.Defs
public import proofs.«01_k».proof.Proof.Agree
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_in_range

@[expose] public section

noncomputable section

namespace Cert.Claims

open Idealize.ShloMosaic Idealize.SL.Sem

/-! The claims, each as its own theorem. -/

/-- The kernel over the machine's own numbers runs, keeps its arguments and leaves every counter at zero. -/
theorem kernel_frame : Cert.quiescent_Kernel := fun m g _ => Cert.Kernel.Gen.frame m g

/-- The kernel over the exact numbers runs, keeps its arguments and leaves every counter at zero. -/
theorem exact_frame : Cert.quiescent_KernelIdeal := fun m g _ => Cert.KernelIdeal.Gen.frame m g

/-- The same where the arguments are in range. -/
theorem exact_frame_in_range : Cert.quiescent_KernelIdeal_pre_in_range := fun m g _ => Cert.KernelIdeal.Gen.frame m g

/-- The reference runs and keeps its arguments; it has no counter. -/
theorem reference_frame : Cert.quiescent_ReferenceIdeal := fun m g _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m g)

/-- The same where the arguments are in range. -/
theorem reference_frame_in_range : Cert.quiescent_ReferenceIdeal_pre_in_range := fun m g _ => reference_frame m g trivial

/-- Nine equal arguments give equal values. -/
theorem nine {A B C D E G H I J R : Type} (f : A → B → C → D → E → G → H → I → J → R) {a a' : A} {b b' : B} {c c' : C} {d d' : D}
    {e e' : E} {g g' : G} {h h' : H} {i i' : I} {j j' : J} (ha : a = a') (hb : b = b') (hc : c = c') (hd : d = d') (he : e = e')
    (hg : g = g') (hh : h = h') (hi : i = i') (hj : j = j') : f a b c d e g h i j = f a' b' c' d' e' g' h' i' j' := by
  subst ha hb hc hd he hg hh hi hj; rfl

/-- Where the arguments are in range, the kernel over the exact numbers and the reference end with the same two results. -/
theorem same_results : Cert.algebraic_KernelIdeal_ReferenceIdeal_pre_in_range := by
  intro m g m' g' hpre hagree
  have ok : ∀ c, Cert.Agree.Ok m c := fun c =>
    Cert.Pre_in_range.Decode.holds _ _ _ _ _ _ _ _ _ _ _ _ _ _ _ (hpre c)
  refine ⟨fun c => Cert.KernelIdeal.Value.G11 m c, fun c => Cert.KernelIdeal.Value.G12 m c, ?_, ?_⟩
  · exact Cert.KernelIdeal.Value.run m g
  · refine (θ_run Cert.ReferenceIdeal.defs _ _).mono (fun r h c => ?_) (Cert.ReferenceIdeal.Value.run (F := Ideal) m' g')
    obtain ⟨h0, h1, h2, h3, h4, h5, h6, h7, h8, h9, h10, h11, h12, h13, h14⟩ := hagree c
    refine ⟨(h c).1.trans ?_, (h c).2.1.trans ?_, (h c).2.2⟩
    · refine (Cert.ReferenceIdeal.Read.val_main_v164_eq (F := Ideal) (StableHlo.launchContents m' c)).trans ?_
      refine Eq.trans ?_ (Cert.Agree.first_eq m c (ok c)).symm
      exact nine (Cert.ReferenceIdeal.Read.val_main_v164 (F := Ideal)) h0 h1 h2 h3 h4 h5 h6 h7 h8
    · refine (Cert.ReferenceIdeal.Read.val_main_v203_eq (F := Ideal) (StableHlo.launchContents m' c)).trans ?_
      refine Eq.trans ?_ (Cert.Agree.second_eq m c (ok c)).symm
      exact nine (Cert.ReferenceIdeal.Read.val_main_v203 (F := Ideal)) h0 h1 h2 h9 h10 h11 h12 h13 h14

end Cert.Claims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Claims

@[expose] public section

noncomputable section

namespace Cert.Proof

/-- Every claim of the certificate, from its own theorem. -/
theorem claim : Cert.Claim :=
  ⟨Cert.Kernel.Gen.facts, Cert.KernelIdeal.Gen.facts, Cert.ReferenceIdeal.Gen.facts, Cert.Pre_in_range.Gen.facts,
    Cert.Claims.kernel_frame, Cert.Claims.exact_frame, Cert.Claims.exact_frame_in_range, Cert.Claims.reference_frame,
    Cert.Claims.reference_frame_in_range, trivial, Cert.Claims.same_results⟩

end Cert.Proof

end
